-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S4x1024x32 : Shape := ⟨3, ![4, 1024, 32]⟩
abbrev S4x1024 : Shape := ⟨2, ![4, 1024]⟩
abbrev S8192x32 : Shape := ⟨2, ![8192, 32]⟩
abbrev S4096x32 : Shape := ⟨2, ![4096, 32]⟩
abbrev S4096 : Shape := ⟨1, ![4096]⟩
abbrev S_ : Shape := ⟨0, ![]⟩
abbrev S4096x1 : Shape := ⟨2, ![4096, 1]⟩
abbrev S8192 : Shape := ⟨1, ![8192]⟩
abbrev S1x8192 : Shape := ⟨2, ![1, 8192]⟩
abbrev S4096x8192 : Shape := ⟨2, ![4096, 8192]⟩
abbrev S32x8192 : Shape := ⟨2, ![32, 8192]⟩
abbrev S4096x17 : Shape := ⟨2, ![4096, 17]⟩
abbrev S4096x16 : Shape := ⟨2, ![4096, 16]⟩

class Facts : Prop where
  shapeCasts_S4x1024x32_S4096x32 : S4x1024x32.ShapeCasts S4096x32
  shapeCasts_S4x1024_S4096 : S4x1024.ShapeCasts S4096
  reducesTo_S4096x32_S4096_d1 : S4096x32.ReducesTo [1] S4096
  h_S_ : 0 < S_.numel
  bcast_S4096_S4096x1_0 : S4096.BroadcastsInDim S4096x1 (![0] : Fin 1 → Fin S4096x1.rank)
  reducesTo_S8192x32_S8192_d1 : S8192x32.ReducesTo [1] S8192
  bcast_S8192_S1x8192_1 : S8192.BroadcastsInDim S1x8192 (![1] : Fin 1 → Fin S1x8192.rank)
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  transposes_S8192x32_S32x8192_1_0 : S8192x32.Transposes [1, 0] S32x8192
  bcast_S_S4096x8192 : S_.BroadcastsInDim S4096x8192 (![] : Fin 0 → Fin S4096x8192.rank)
  sliceFits_S4096x8192_S4096x17 : S4096x8192.Slices (fun _ => 0) S4096x17
  bcast_S_S4096x32 : S_.BroadcastsInDim S4096x32 (![] : Fin 0 → Fin S4096x32.rank)
  bcast_S_S8192x32 : S_.BroadcastsInDim S8192x32 (![] : Fin 0 → Fin S8192x32.rank)
  bcast_S_S4096 : S_.BroadcastsInDim S4096 (![] : Fin 0 → Fin S4096.rank)
  slices_S4096x17_S4096x16_0_1 : S4096x17.Slices ![0, 1] S4096x16
  slices_S4096x17_S4096x16_0_0 : S4096x17.Slices ![0, 0] S4096x16
  dot_S4096x32_S32x8192_S4096x8192_1_0_0_1_n_n_wf : DotDims.WF S4096x32 S32x8192 S4096x8192 [1] [0] [0] [1] [] []

variable [Facts]

def dot_S4096x32_S32x8192_S4096x8192_1_0_0_1_n_n : DotDims S4096x32 S32x8192 S4096x8192 where
  lhsContracting := [1]
  rhsContracting := [0]
  lhsNonContracting := [0]
  rhsNonContracting := [1]
  lhsBatch := []
  rhsBatch := []
  wf := dot_S4096x32_S32x8192_S4096x8192_1_0_0_1_n_n_wf
def fn_where {F : FTy → Type} [FloatOps F] (arg0 : IVec S4096x8192 1) (arg1 : FVec F S_ .f32) (arg2 : FVec F S4096x8192 .f32) : FVec F S4096x8192 .f32 :=
  let v0 : FVec F S_ .f32 := id arg1
  let v1 : FVec F S4096x8192 .f32 := broadcastInDim S4096x8192 ![] bcast_S_S4096x8192 v0
  let v2 : FVec F S4096x8192 .f32 := select arg0 v1 arg2
  v2

def fn_part1 {F : FTy → Type} [FloatOps F] (main_arg3 : FVec F S8192x32 .f32) (main_v0 : FVec F S4096x32 .f32) (main_v1 : IVec S4096 32) (main_v19 : IVec S4096x8192 1) (main_v20 : FVec F S4096x8192 .f32) : IVec S4096x32 1 × IVec S8192x32 1 × IVec S4096 1 × IVec S4096 1 × IVec S4096x16 1 :=
  let main_cst_2 : FVec F S_ .f32 := constant S_ .f32 0xFF800000#32
  let main_v21 : FVec F S4096x8192 .f32 := fn_where (F := F) main_v19 main_cst_2 main_v20
  let main_values : FVec F S4096x17 .f32 := (fun x => (Host.topK S4096x17 1 (FloatOps.cmpfTotal .gt) x sliceFits_S4096x8192_S4096x17).1) main_v21
  let main_indices : IVec S4096x17 32 := (fun x => (Host.topK S4096x17 1 (FloatOps.cmpfTotal .gt) x sliceFits_S4096x8192_S4096x17).2) main_v21
  let main_v22 : FVec F S4096x32 .f32 := Host.absf main_v0
  let main_cst_3 : FVec F S_ .f32 := constant S_ .f32 0x7F800000#32
  let main_v23 : FVec F S4096x32 .f32 := broadcastInDim S4096x32 ![] bcast_S_S4096x32 main_cst_3
  let main_v24 : IVec S4096x32 1 := cmpf .olt main_v22 main_v23
  let main_v25 : FVec F S8192x32 .f32 := Host.absf main_arg3
  let main_cst_4 : FVec F S_ .f32 := constant S_ .f32 0x7F800000#32
  let main_v26 : FVec F S8192x32 .f32 := broadcastInDim S8192x32 ![] bcast_S_S8192x32 main_cst_4
  let main_v27 : IVec S8192x32 1 := cmpf .olt main_v25 main_v26
  let main_c : IVec S_ 32 := constantI S_ 32 0#32
  let main_v28 : IVec S4096 32 := broadcastInDim S4096 ![] bcast_S_S4096 main_c
  let main_v29 : IVec S4096 1 := cmpi .sge main_v1 main_v28
  let main_c_5 : IVec S_ 32 := constantI S_ 32 8192#32
  let main_v30 : IVec S4096 32 := broadcastInDim S4096 ![] bcast_S_S4096 main_c_5
  let main_v31 : IVec S4096 1 := cmpi .slt main_v1 main_v30
  let main_v32 : FVec F S4096x16 .f32 := (extractStridedSlice S4096x16 ![0, 1] · slices_S4096x17_S4096x16_0_1) main_values
  let main_v33 : FVec F S4096x16 .f32 := (extractStridedSlice S4096x16 ![0, 0] · slices_S4096x17_S4096x16_0_0) main_values
  let main_v34 : IVec S4096x16 1 := cmpf .olt main_v32 main_v33
  (main_v24, main_v27, main_v29, main_v31, main_v34)

def fn {F : FTy → Type} [FloatOps F] (main_arg0 : FVec F S4x1024x32 .f32) (main_arg1 : FVec F S4x1024x32 .f32) (main_arg2 : IVec S4x1024 32) (main_arg3 : FVec F S8192x32 .f32) : IVec S4096x32 1 × IVec S8192x32 1 × IVec S4096 1 × IVec S4096 1 × IVec S4096x16 1 :=
  let main_v0 : FVec F S4096x32 .f32 := shapeCast S4096x32 main_arg0 shapeCasts_S4x1024x32_S4096x32
  let main_v1 : IVec S4096 32 := shapeCast S4096 main_arg2 shapeCasts_S4x1024_S4096
  let main_v2 : FVec F S4096x32 .f32 := mulf main_v0 main_v0
  let main_cst : FVec F S_ .f32 := constant S_ .f32 0x00000000#32
  let main_v3 : FVec F S4096 .f32 := (fun x v => Host.reduceAdd x v reducesTo_S4096x32_S4096_d1 h_S_) main_v2 main_cst
  let main_v4 : FVec F S4096x1 .f32 := broadcastInDim S4096x1 ![0] bcast_S4096_S4096x1_0 main_v3
  let main_v5 : FVec F S8192x32 .f32 := mulf main_arg3 main_arg3
  let main_cst_0 : FVec F S_ .f32 := constant S_ .f32 0x00000000#32
  let main_v6 : FVec F S8192 .f32 := (fun x v => Host.reduceAdd x v reducesTo_S8192x32_S8192_d1 h_S_) main_v5 main_cst_0
  let main_v7 : FVec F S1x8192 .f32 := broadcastInDim S1x8192 ![1] bcast_S8192_S1x8192_1 main_v6
  let main_v8 : FVec F S4096x8192 .f32 := broadcastInDim S4096x8192 ![0, 1] bcast_S4096x1_S4096x8192_0_1 main_v4
  let main_v9 : FVec F S4096x8192 .f32 := broadcastInDim S4096x8192 ![0, 1] bcast_S1x8192_S4096x8192_0_1 main_v7
  let main_v10 : FVec F S4096x8192 .f32 := addf main_v8 main_v9
  let main_v11 : FVec F S32x8192 .f32 := (transpose S32x8192 [1, 0] · transposes_S8192x32_S32x8192_1_0) main_arg3
  let main_v12 : FVec F S4096x8192 .f32 := (fun l r => Host.dotGeneral dot_S4096x32_S32x8192_S4096x8192_1_0_0_1_n_n none l r) main_v0 main_v11
  let main_cst_1 : FVec F S_ .f32 := constant S_ .f32 0x40000000#32
  let main_v13 : FVec F S4096x8192 .f32 := broadcastInDim S4096x8192 ![] bcast_S_S4096x8192 main_cst_1
  let main_v14 : FVec F S4096x8192 .f32 := mulf main_v13 main_v12
  let main_v15 : FVec F S4096x8192 .f32 := subf main_v10 main_v14
  let main_v16 : IVec S4096x8192 32 := iotaInDim S4096x8192 32 1
  let main_v17 : IVec S4096x1 32 := broadcastInDim S4096x1 ![0] bcast_S4096_S4096x1_0 main_v1
  let main_v18 : IVec S4096x8192 32 := broadcastInDim S4096x8192 ![0, 1] bcast_S4096x1_S4096x8192_0_1 main_v17
  let main_v19 : IVec S4096x8192 1 := cmpi .eq main_v16 main_v18
  let main_v20 : FVec F S4096x8192 .f32 := Host.negf main_v15
  fn_part1 (F := F) main_arg3 main_v0 main_v1 main_v19 main_v20
-- ==== Kernel.lean ====
abbrev S4x1024x32 : Shape := ⟨3, ![4, 1024, 32]⟩
abbrev S4x1024 : Shape := ⟨2, ![4, 1024]⟩
abbrev S8192x32 : Shape := ⟨2, ![8192, 32]⟩
abbrev S4096x32 : Shape := ⟨2, ![4096, 32]⟩
abbrev S32x1x128 : Shape := ⟨3, ![32, 1, 128]⟩
abbrev S1x1 : Shape := ⟨2, ![1, 1]⟩
abbrev S128x32 : Shape := ⟨2, ![128, 32]⟩
abbrev S1x1x128 : Shape := ⟨3, ![1, 1, 128]⟩
abbrev S3 : Shape := ⟨1, ![3]⟩
abbrev S128x8192 : Shape := ⟨2, ![128, 8192]⟩
abbrev S1x8192 : Shape := ⟨2, ![1, 8192]⟩
abbrev S128x1 : Shape := ⟨2, ![128, 1]⟩
abbrev S1 : Shape := ⟨1, ![1]⟩
abbrev S128 : Shape := ⟨1, ![128]⟩
abbrev S1x128 : Shape := ⟨2, ![1, 128]⟩
abbrev S8192 : Shape := ⟨1, ![8192]⟩
abbrev S1x128x1 : Shape := ⟨3, ![1, 128, 1]⟩
abbrev S1x1x1 : Shape := ⟨3, ![1, 1, 1]⟩

abbrev nBuf : Space → Nat
  | .hbm => 8
  | .vmem => 17
  | .smem => 1
  | _ => 0

abbrev bufTy : (tb : Table) → Fin (tcTables nBuf tb) → BufTy
  | .hbm, ⟨0, _⟩ => ⟨S4x1024x32, .f32⟩
  | .hbm, ⟨1, _⟩ => ⟨S4x1024x32, .f32⟩
  | .hbm, ⟨2, _⟩ => ⟨S4x1024, .i32⟩
  | .hbm, ⟨3, _⟩ => ⟨S8192x32, .f32⟩
  | .hbm, ⟨4, _⟩ => ⟨S4096x32, .f32⟩
  | .hbm, ⟨5, _⟩ => ⟨S4096x32, .f32⟩
  | .hbm, ⟨6, _⟩ => ⟨S32x1x128, .i32⟩
  | .hbm, ⟨7, _⟩ => ⟨S1x1, .f32⟩
  | .local _ .vmem, ⟨0, _⟩ => ⟨S128x32, .f32⟩
  | .local _ .vmem, ⟨1, _⟩ => ⟨S128x32, .f32⟩
  | .local _ .vmem, ⟨2, _⟩ => ⟨S128x32, .f32⟩
  | .local _ .vmem, ⟨3, _⟩ => ⟨S128x32, .f32⟩
  | .local _ .vmem, ⟨4, _⟩ => ⟨S128x32, .f32⟩
  | .local _ .vmem, ⟨5, _⟩ => ⟨S128x32, .f32⟩
  | .local _ .vmem, ⟨6, _⟩ => ⟨S1x1x128, .i32⟩
  | .local _ .vmem, ⟨7, _⟩ => ⟨S1x1x128, .i32⟩
  | .local _ .vmem, ⟨8, _⟩ => ⟨S8192x32, .f32⟩
  | .local _ .vmem, ⟨9, _⟩ => ⟨S1x1, .f32⟩
  | .local _ .vmem, ⟨10, _⟩ => ⟨S128x8192, .f32⟩
  | .local _ .vmem, ⟨11, _⟩ => ⟨S1x8192, .f32⟩
  | .local _ .vmem, ⟨12, _⟩ => ⟨S128x1, .f32⟩
  | .local _ .vmem, ⟨13, _⟩ => ⟨S128x1, .f32⟩
  | .local _ .vmem, ⟨14, _⟩ => ⟨S128x1, .f32⟩
  | .local _ .vmem, ⟨15, _⟩ => ⟨S128x1, .f32⟩
  | .local _ .vmem, ⟨16, _⟩ => ⟨S128x1, .f32⟩
  | .local _ .smem, ⟨0, _⟩ => ⟨S3, .f32⟩
  | _, _ => ⟨S4x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨2, ![32, 18], ![false, false]⟩

def k0_cond4 (i : grid0.Coords) : BitVec 1 :=
  let arg1 : BitVec 32 := BitVec.ofNat 32 (i 1).val
  let c17_i32 : BitVec 32 := 17#32
  let v13 : BitVec 1 := Scalar.cmpi .eq arg1 c17_i32
  let v14 : BitVec 32 := Scalar.extui v13
  let c0_i32_6 : BitVec 32 := 0#32
  let v15 : BitVec 1 := Scalar.cmpi .ne v14 c0_i32_6
  v15

def k0_cond5 (i : grid0.Coords) : BitVec 1 :=
  let arg0 : BitVec 32 := BitVec.ofNat 32 (i 0).val
  let c31_i32 : BitVec 32 := 31#32
  let v29 : BitVec 1 := Scalar.cmpi .eq arg0 c31_i32
  let v30 : BitVec 32 := Scalar.extui v29
  let c0_i32_12 : BitVec 32 := 0#32
  let v31 : BitVec 1 := Scalar.cmpi .ne v30 c0_i32_12
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.subi v16 c1_i32_4
  let c4_i32 : BitVec 32 := 4#32
  let c0_i32_5 : BitVec 32 := 0#32
  let v18 : BitVec 1 := Scalar.cmpi .eq c4_i32 c0_i32_5
  let c1_i32_6 : BitVec 32 := 1#32
  let v19 : BitVec 32 := Scalar.select v18 c1_i32_6 c4_i32
  let v20 : BitVec 32 := Scalar.remsi v17 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c8_i32_10 : BitVec 32 := 8#32
  let v28 : BitVec 32 := Scalar.muli v27 c8_i32_10
  let c8_i32_11 : BitVec 32 := 8#32
  let c0_i32_12 : BitVec 32 := 0#32
  let v29 : BitVec 1 := Scalar.cmpi .eq c8_i32_11 c0_i32_12
  let c1_i32_13 : BitVec 32 := 1#32
  let v30 : BitVec 32 := Scalar.select v29 c1_i32_13 c8_i32_11
  let v31 : BitVec 32 := Scalar.remsi arg0 v30
  let c0_i32_14 : BitVec 32 := 0#32
  let v32 : BitVec 1 := Scalar.cmpi .ne v31 c0_i32_14
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let v36 : BitVec 1 := Scalar.andi v35 v32
  let v37 : BitVec 32 := Scalar.addi v31 v30
  let v38 : BitVec 32 := Scalar.select v36 v37 v31
  let v39 : BitVec 32 := Scalar.addi v28 v38
  let c0_i32_17 : BitVec 32 := 0#32
  let c0_i32_18 : BitVec 32 := 0#32
  ![v39.toNat, c0_i32_17.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8192x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S4x1024x32 : Shape := ⟨3, ![4, 1024, 32]⟩
abbrev S4x1024 : Shape := ⟨2, ![4, 1024]⟩
abbrev S8192x32 : Shape := ⟨2, ![8192, 32]⟩
abbrev S_ : Shape := ⟨0, ![]⟩
abbrev S1x1024x32 : Shape := ⟨3, ![1, 1024, 32]⟩
abbrev S3x1024x32 : Shape := ⟨3, ![3, 1024, 32]⟩
abbrev S4x1024x1 : Shape := ⟨3, ![4, 1024, 1]⟩
abbrev S4096x32 : Shape := ⟨2, ![4096, 32]⟩
abbrev S4096 : Shape := ⟨1, ![4096]⟩
abbrev S4096x1 : Shape := ⟨2, ![4096, 1]⟩
abbrev S8192 : Shape := ⟨1, ![8192]⟩
abbrev S1x8192 : Shape := ⟨2, ![1, 8192]⟩
abbrev S4096x8192 : Shape := ⟨2, ![4096, 8192]⟩
abbrev S32x8192 : Shape := ⟨2, ![32, 8192]⟩
abbrev S4096x2 : Shape := ⟨2, ![4096, 2]⟩
abbrev S4096x16 : Shape := ⟨2, ![4096, 16]⟩
abbrev S4096x16x1 : Shape := ⟨3, ![4096, 16, 1]⟩
abbrev S4096x16x32 : Shape := ⟨3, ![4096, 16, 32]⟩
abbrev S4096x17 : Shape := ⟨2, ![4096, 17]⟩
abbrev S1x1 : Shape := ⟨2, ![1, 1]⟩

abbrev nBuf : Space → Nat
  | .hbm => 179
  | .vmem => 0
  | .smem => 0
  | _ => 0

abbrev hbmTy0_0 (i : Nat) : BufTy := match i % 128 with
  | 0 => ⟨S4x1024x32, .f32⟩
  | 1 => ⟨S4x1024x32, .f32⟩
  | 2 => ⟨S4x1024, .i32⟩
  | 3 => ⟨S8192x32, .f32⟩
  | 4 => ⟨S_, .f32⟩
  | 5 => ⟨S4x1024, .f32⟩
  | 6 => ⟨S4x1024x32, .f32⟩
  | 7 => ⟨S4x1024x32, .f32⟩
  | 8 => ⟨S_, .f32⟩
  | 9 => ⟨S4x1024, .f32⟩
  | 10 => ⟨S_, .f32⟩
  | 11 => ⟨S4x1024, .f32⟩
  | 12 => ⟨S4x1024, .f32⟩
  | 13 => ⟨S4x1024, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S4x1024x32, .f32⟩
  | 22 => ⟨S4x1024x32, .f32⟩
  | 23 => ⟨S_, .f32⟩
  | 24 => ⟨S4x1024, .f32⟩
  | 25 => ⟨S4x1024, .f32⟩
  | 26 => ⟨S1x1024x32, .f32⟩
  | 27 => ⟨S3x1024x32, .f32⟩
  | 28 => ⟨S4x1024x32, .f32⟩
  | 29 => ⟨S4x1024x32, .f32⟩
  | 30 => ⟨S4x1024x32, .f32⟩
  | 31 => ⟨S_, .f32⟩
  | 32 => ⟨S4x1024, .f32⟩
  | 33 => ⟨S4x1024, .f32⟩
  | 34 => ⟨S4x1024, .f32⟩
  | 35 => ⟨S_, .f32⟩
  | 36 => ⟨S4x1024, .f32⟩
  | 37 => ⟨S4x1024, .f32⟩
  | 38 => ⟨S_, .f32⟩
  | 39 => ⟨S4x1024, .f32⟩
  | 40 => ⟨S4x1024, .f32⟩
  | 41 => ⟨S4x1024, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .i32⟩
  | 51 => ⟨S4x1024, .i32⟩
  | 52 => ⟨S4x1024, .i1⟩
  | 53 => ⟨S_, .i32⟩
  | 54 => ⟨S4x1024, .i32⟩
  | 55 => ⟨S4x1024, .i32⟩
  | 56 => ⟨S4x1024, .i32⟩
  | 57 => ⟨S4x1024x1, .i32⟩
  | 58 => ⟨S4x1024x32, .f32⟩
  | 59 => ⟨S4096x32, .f32⟩
  | 60 => ⟨S4096x32, .f32⟩
  | 61 => ⟨S_, .f32⟩
  | 62 => ⟨S4096, .f32⟩
  | 63 => ⟨S4096x1, .f32⟩
  | 64 => ⟨S8192x32, .f32⟩
  | 65 => ⟨S_, .f32⟩
  | 66 => ⟨S8192, .f32⟩
  | 67 => ⟨S1x8192, .f32⟩
  | 68 => ⟨S4096x8192, .f32⟩
  | 69 => ⟨S4096x8192, .f32⟩
  | 70 => ⟨S4096x8192, .f32⟩
  | 71 => ⟨S32x8192, .f32⟩
  | 72 => ⟨S4096x8192, .f32⟩
  | 73 => ⟨S_, .f32⟩
  | 74 => ⟨S4096x8192, .f32⟩
  | 75 => ⟨S4096x8192, .f32⟩
  | 76 => ⟨S4096x8192, .f32⟩
  | 77 => ⟨S_, .f32⟩
  | 78 => ⟨S4096x8192, .f32⟩
  | 79 => ⟨S4096x8192, .f32⟩
  | 80 => ⟨S4096x8192, .f32⟩
  | 81 => ⟨S4096, .i32⟩
  | 82 => ⟨S_, .f32⟩
  | 83 => ⟨S4096x8192, .f32⟩
  | 84 => ⟨S4096, .i32⟩
  | 85 => ⟨S_, .i32⟩
  | 86 => ⟨S4096, .i32⟩
  | 87 => ⟨S4096, .i1⟩
  | 88 => ⟨S_, .i32⟩
  | 89 => ⟨S4096, .i32⟩
  | 90 => ⟨S4096, .i32⟩
  | 91 => ⟨S4096, .i32⟩
  | 92 => ⟨S_, .i32⟩
  | 93 => ⟨S4096, .i32⟩
  | 94 => ⟨S4096, .i1⟩
  | 95 => ⟨S_, .i32⟩
  | 96 => ⟨S4096, .i32⟩
  | 97 => ⟨S4096, .i32⟩
  | 98 => ⟨S4096, .i32⟩
  | 99 => ⟨S4096x1, .i32⟩
  | 100 => ⟨S4096x1, .i32⟩
  | 101 => ⟨S4096x2, .i32⟩
  | 102 => ⟨S_, .f32⟩
  | 103 => ⟨S4096, .f32⟩
  | 104 => ⟨S4096x8192, .f32⟩
  | 105 => ⟨S4096x8192, .f32⟩
  | 106 => ⟨S4096x8192, .f32⟩
  | 107 => ⟨S4096x16, .f32⟩
  | 108 => ⟨S4096x16, .i32⟩
  | 109 => ⟨S_, .i32⟩
  | 110 => ⟨S4096x16, .i32⟩
  | 111 => ⟨S4096x16, .i1⟩
  | 112 => ⟨S_, .i32⟩
  | 113 => ⟨S4096x16, .i32⟩
  | 114 => ⟨S4096x16, .i32⟩
  | 115 => ⟨S4096x16, .i32⟩
  | 116 => ⟨S4096x16x1, .i32⟩
  | 117 => ⟨S4096x16x32, .f32⟩
  | 118 => ⟨S4096x32, .f32⟩
  | 119 => ⟨S_, .f32⟩
  | 120 => ⟨S4096, .f32⟩
  | 121 => ⟨S4096x1, .f32⟩
  | 122 => ⟨S4096x1, .f32⟩
  | 123 => ⟨S_, .f32⟩
  | 124 => ⟨S4096x1, .f32⟩
  | 125 => ⟨S4096x1, .f32⟩
  | 126 => ⟨S4096x32, .f32⟩
  | 127 => ⟨S4096x32, .f32⟩
  | _ => ⟨S4x1024x32, .f32⟩

abbrev hbmTy0_1 (i : Nat) : BufTy := match i % 128 with
  | 0 => ⟨S4096x32, .f32⟩
  | 1 => ⟨S4096x32, .f32⟩
  | 2 => ⟨S_, .f32⟩
  | 3 => ⟨S4096, .f32⟩
  | 4 => ⟨S4096x1, .f32⟩
  | 5 => ⟨S4096x1, .f32⟩
  | 6 => ⟨S_, .f32⟩
  | 7 => ⟨S4096x1, .f32⟩
  | 8 => ⟨S4096x1, .f32⟩
  | 9 => ⟨S4096x32, .f32⟩
  | 10 => ⟨S4096x32, .f32⟩
  | 11 => ⟨S4096x16x32, .f32⟩
  | 12 => ⟨S_, .f32⟩
  | 13 => ⟨S4096x16, .f32⟩
  | 14 => ⟨S4096x16x1, .f32⟩
  | 15 => ⟨S4096x16x1, .f32⟩
  | 16 => ⟨S_, .f32⟩
  | 17 => ⟨S4096x16x1, .f32⟩
  | 18 => ⟨S4096x16x1, .f32⟩
  | 19 => ⟨S4096x16x32, .f32⟩
  | 20 => ⟨S4096x16x32, .f32⟩
  | 21 => ⟨S4096x32, .f32⟩
  | 22 => ⟨S_, .f32⟩
  | 23 => ⟨S4096, .f32⟩
  | 24 => ⟨S_, .f32⟩
  | 25 => ⟨S4096, .f32⟩
  | 26 => ⟨S4096, .f32⟩
  | 27 => ⟨S4096x16, .f32⟩
  | 28 => ⟨S_, .f32⟩
  | 29 => ⟨S4096x16, .f32⟩
  | 30 => ⟨S4096x16, .f32⟩
  | 31 => ⟨S4096x1, .f32⟩
  | 32 => ⟨S4096x17, .f32⟩
  | 33 => ⟨S4096x17, .f32⟩
  | 34 => ⟨S_, .f32⟩
  | 35 => ⟨S4096, .f32⟩
  | 36 => ⟨S4096, .f32⟩
  | 37 => ⟨S4096x1, .f32⟩
  | 38 => ⟨S4096, .f32⟩
  | 39 => ⟨S4096, .f32⟩
  | 40 => ⟨S4096, .f32⟩
  | 41 => ⟨S4096, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S1x1, .f32⟩
  | _ => ⟨S4x1024x32, .f32⟩

abbrev hbmTy (i : Nat) : BufTy := match i / 128 with
  | 0 => hbmTy0_0 i
  | 1 => hbmTy0_1 i
  | _ => ⟨S4x1024x32, .f32⟩

abbrev bufTy : (tb : Table) → Fin (tcTables nBuf tb) → BufTy
  | .hbm, ⟨i, _⟩ => hbmTy i
  | _, _ => ⟨S4x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_call1_cst : Ref sig .tc := ⟨.hbm, 38, rfl⟩
abbrev main_call1_v0 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_cst_10 : Ref sig .tc := ⟨.hbm, 47, rfl⟩
abbrev main_v28 : Ref sig .tc := ⟨.hbm, 48, rfl⟩
abbrev main_v29 : Ref sig .tc := ⟨.hbm, 49, rfl⟩
abbrev main_c : Ref sig .tc := ⟨.hbm, 50, rfl⟩
abbrev main_v30 : Ref sig .tc := ⟨.hbm, 51, rfl⟩
abbrev main_v31 : Ref sig .tc := ⟨.hbm, 52, rfl⟩
abbrev main_c_11 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_12 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_13 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_14 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_15 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_16 : Ref sig .tc := ⟨.hbm, 82, rfl⟩
abbrev main_v56 : Ref sig .tc := ⟨.hbm, 83, rfl⟩
abbrev main_v57 : Ref sig .tc := ⟨.hbm, 84, rfl⟩
abbrev main_c_17 : Ref sig .tc := ⟨.hbm, 85, rfl⟩
abbrev main_v58 : Ref sig .tc := ⟨.hbm, 86, rfl⟩
abbrev main_v59 : Ref sig .tc := ⟨.hbm, 87, rfl⟩
abbrev main_c_18 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_19 : Ref sig .tc := ⟨.hbm, 92, rfl⟩
abbrev main_v63 : Ref sig .tc := ⟨.hbm, 93, rfl⟩
abbrev main_v64 : Ref sig .tc := ⟨.hbm, 94, rfl⟩
abbrev main_c_20 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_21 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_values : Ref sig .tc := ⟨.hbm, 107, rfl⟩
abbrev main_indices : Ref sig .tc := ⟨.hbm, 108, rfl⟩
abbrev main_c_22 : Ref sig .tc := ⟨.hbm, 109, rfl⟩
abbrev main_v75 : Ref sig .tc := ⟨.hbm, 110, rfl⟩
abbrev main_v76 : Ref sig .tc := ⟨.hbm, 111, rfl⟩
abbrev main_c_23 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_call2_v0 : Ref sig .tc := ⟨.hbm, 118, rfl⟩
abbrev main_call2_cst : Ref sig .tc := ⟨.hbm, 119, rfl⟩
abbrev main_call2_v1 : Ref sig .tc := ⟨.hbm, 120, rfl⟩
abbrev main_call2_v2 : Ref sig .tc := ⟨.hbm, 121, rfl⟩
abbrev main_v82 : Ref sig .tc := ⟨.hbm, 122, rfl⟩
abbrev main_cst_24 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_call3_v0 : Ref sig .tc := ⟨.hbm, 129, rfl⟩
abbrev main_call3_cst : Ref sig .tc := ⟨.hbm, 130, rfl⟩
abbrev main_call3_v1 : Ref sig .tc := ⟨.hbm, 131, rfl⟩
abbrev main_call3_v2 : Ref sig .tc := ⟨.hbm, 132, rfl⟩
abbrev main_v88 : Ref sig .tc := ⟨.hbm, 133, rfl⟩
abbrev main_cst_25 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_call4_v0 : Ref sig .tc := ⟨.hbm, 139, rfl⟩
abbrev main_call4_cst : Ref sig .tc := ⟨.hbm, 140, rfl⟩
abbrev main_call4_v1 : Ref sig .tc := ⟨.hbm, 141, rfl⟩
abbrev main_call4_v2 : Ref sig .tc := ⟨.hbm, 142, rfl⟩
abbrev main_v93 : Ref sig .tc := ⟨.hbm, 143, rfl⟩
abbrev main_cst_26 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_cst_27 : Ref sig .tc := ⟨.hbm, 150, rfl⟩
abbrev main_v99 : Ref sig .tc := ⟨.hbm, 151, rfl⟩
abbrev main_cst_28 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_cst_29 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_cst_30 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_cst_31 : Ref sig .tc := ⟨.hbm, 170, rfl⟩
abbrev main_v115 : Ref sig .tc := ⟨.hbm, 171, rfl⟩
abbrev main_cst_32 : Ref sig .tc := ⟨.hbm, 172, rfl⟩
abbrev main_v116 : Ref sig .tc := ⟨.hbm, 173, rfl⟩
abbrev main_v117 : Ref sig .tc := ⟨.hbm, 174, rfl⟩
abbrev main_cst_33 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩

abbrev nD : Nat := 1
abbrev τ : Topo := Topo.v7x

variable {F : FTy → Type} [FloatOps F]
-- ==== Proof.Select.lean ====
/-
  Selecting the least keys one after the other.

  A row of keys is gone through in two ways. One sorts it and keeps a prefix. The other takes the least key, then
  the least key above that one, and so on. This module shows what both give when the first keys are different from
  one another: the same positions in the same order.
-/
module

public import Idealize.ShloMosaic.Lib.SortFacts
public import Mathlib.Data.EReal.Basic
public import Mathlib.Data.Finset.Lattice.Fold

@[expose] public section

namespace Cert.Select

open Idealize.ShloMosaic

/-- If each `σ i` is sorted strictly before every position that is none of `σ 0, …, σ i`, the sort starts with
    `σ 0, σ 1, …`, whatever the order among the other positions. -/
theorem sortedFrom_prefix {n k : ℕ} {B : Fin n → Fin n → Bool}
    (hasymm : ∀ a b, B a b = true → B b a = false)
    (hneg : ∀ a b c, B a b = false → B b c = false → B a c = false)
    (hk : k ≤ n) (σ : Fin k → Fin n) (hinj : Function.Injective σ)
    (hfirst : ∀ (i : Fin k) (p : Fin n), (∀ j, j ≤ i → σ j ≠ p) → B (σ i) p = true) (i : Fin k) :
    sortedFrom B (i.castLE hk) = σ i := by
  have hsort : ∀ a b : Fin n, a < b → B (sortedFrom B b) (sortedFrom B a) = false :=
    fun a b hab => sortedFrom_noInversion B B hasymm (fun _ _ h => h) hneg a b hab
  have main : ∀ (m : ℕ) (hm : m < k), sortedFrom B ((⟨m, hm⟩ : Fin k).castLE hk) = σ ⟨m, hm⟩ := by
    intro m
    induction m using Nat.strong_induction_on with
    | _ m ih =>
      intro hm
      obtain ⟨q, hq⟩ := sortedFrom_surjective B (σ ⟨m, hm⟩)
      have hle : q.val ≤ m := by
        by_contra hlt
        push Not at hlt
        have h0 := hsort ((⟨m, hm⟩ : Fin k).castLE hk) q (by exact hlt)
        rw [hq] at h0
        have : ∃ j, j ≤ (⟨m, hm⟩ : Fin k) ∧ σ j = sortedFrom B ((⟨m, hm⟩ : Fin k).castLE hk) := by
          by_contra hno
          push Not at hno
          rw [hfirst ⟨m, hm⟩ _ hno] at h0
          exact absurd h0 (by decide)
        obtain ⟨j, hj, e⟩ := this
        rcases Nat.lt_or_ge j.val m with hjm | hjm
        · rw [← ih j.val hjm j.isLt] at e
          have := congrArg Fin.val (sortedFrom_injective B e)
          simp at this
          omega
        · have hj' : j.val ≤ m := hj
          obtain rfl : j = ⟨m, hm⟩ := Fin.ext (le_antisymm hj' hjm)
          rw [← hq] at e
          have := congrArg Fin.val (sortedFrom_injective B e)
          simp at this
          omega
      rcases Nat.lt_or_ge q.val m with hqm | hqm
      · have e := ih q.val hqm (lt_trans hqm hm)
        have hqq : ((⟨q.val, lt_trans hqm hm⟩ : Fin k).castLE hk) = q := Fin.ext rfl
        rw [hqq, hq] at e
        have := congrArg Fin.val (hinj e)
        simp at this
        omega
      · have hqq : ((⟨m, hm⟩ : Fin k).castLE hk) = q := Fin.ext (le_antisymm hqm hle)
        rw [hqq, hq]
  exact main i.val i.isLt

variable {n : ℕ}

/-- The keys taken one after the other: the least key, then each time the least key above the one before. -/
noncomputable def thr (key : Fin n → EReal) : ℕ → EReal
  | 0 => Finset.univ.inf key
  | r + 1 => Finset.univ.inf fun k => if thr key r < key k then key k else ⊤

/-- `σ` lists the positions of the least keys of a row: their keys increase strictly, and no other position has a
    key below the last of them. -/
structure Lists {k : ℕ} (key : Fin n → EReal) (σ : Fin (k + 1) → Fin n) : Prop where
  strict : ∀ i j, i < j → key (σ i) < key (σ j)
  rest : ∀ p, (∀ j, σ j ≠ p) → key (σ (Fin.last k)) ≤ key p

namespace Lists

variable {k : ℕ} {key : Fin n → EReal} {σ : Fin (k + 1) → Fin n} (h : Lists key σ)
include h

/-- The listed keys do not decrease. -/
theorem mono {i j : Fin (k + 1)} (hij : i ≤ j) : key (σ i) ≤ key (σ j) := by
  rcases eq_or_lt_of_le hij with rfl | hlt
  · exact le_rfl
  · exact (h.strict i j hlt).le

/-- No position is listed twice. -/
theorem injective : Function.Injective σ := by
  intro i j e
  rcases lt_trichotomy i j with hl | hl | hl
  · exact absurd (congrArg key e) (h.strict i j hl).ne
  · exact hl
  · exact absurd (congrArg key e) (h.strict j i hl).ne'

/-- Every key that is not one of the first `i` is at least the `i`-th. -/
theorem le_of_not_lt (i : Fin (k + 1)) (p : Fin n) (hp : ∀ j, j < i → σ j ≠ p) : key (σ i) ≤ key p := by
  by_cases hx : ∃ j, σ j = p
  · obtain ⟨j, rfl⟩ := hx
    have : i ≤ j := by
      by_contra hlt
      exact hp j (not_le.mp hlt) rfl
    exact h.mono this
  · push Not at hx
    exact (h.mono (Fin.le_last i)).trans (h.rest p hx)

/-- Before the last: a position that is none of `σ 0, …, σ i` has a key above the `i`-th. -/
theorem lt_of_ne (i : Fin (k + 1)) (hi : i < Fin.last k) (p : Fin n) (hp : ∀ j, j ≤ i → σ j ≠ p) :
    key (σ i) < key p := by
  by_cases hx : ∃ j, σ j = p
  · obtain ⟨j, rfl⟩ := hx
    have : i < j := by
      by_contra hlt
      exact hp j (not_lt.mp hlt) rfl
    exact h.strict i j this
  · push Not at hx
    exact (h.strict i _ hi).trans_le (h.rest p hx)

/-- The `r`-th key taken is the `r`-th of the list. -/
theorem thr_eq : ∀ (r : ℕ) (hr : r < k + 1), thr key r = key (σ ⟨r, hr⟩) := by
  intro r
  induction r with
  | zero =>
    intro hr
    refine le_antisymm (Finset.inf_le (Finset.mem_univ _)) (Finset.le_inf fun p _ => ?_)
    exact h.le_of_not_lt ⟨0, hr⟩ p fun j hj => absurd hj (Nat.not_lt_zero _)
  | succ r ih =>
    intro hr
    have ih := ih (Nat.lt_of_succ_lt hr)
    have hlt : (⟨r, Nat.lt_of_succ_lt hr⟩ : Fin (k + 1)) < ⟨r + 1, hr⟩ := Nat.lt_succ_self r
    refine le_antisymm ?_ (Finset.le_inf fun p _ => ?_)
    · refine (Finset.inf_le (Finset.mem_univ (σ ⟨r + 1, hr⟩))).trans ?_
      rw [ih, if_pos (h.strict _ _ hlt)]
    · rw [ih]
      split_ifs with hp
      · refine h.le_of_not_lt _ p fun j hj e => ?_
        subst e
        have : j ≤ ⟨r, Nat.lt_of_succ_lt hr⟩ := Nat.le_of_lt_succ hj
        exact absurd hp (not_lt.mpr (h.mono this))
      · exact le_top

/-- Before the last, the `r`-th key is the key of its position alone. -/
theorem eq_thr_iff (r : ℕ) (hr : r < k) (p : Fin n) :
    key p = thr key r ↔ p = σ ⟨r, Nat.lt_succ_of_lt hr⟩ := by
  rw [h.thr_eq r (Nat.lt_succ_of_lt hr)]
  constructor
  · intro e
    by_contra hne
    by_cases hx : ∃ j, j ≤ (⟨r, Nat.lt_succ_of_lt hr⟩ : Fin (k + 1)) ∧ σ j = p
    · obtain ⟨j, hj, rfl⟩ := hx
      rcases eq_or_lt_of_le hj with rfl | hlt
      · exact hne rfl
      · exact absurd e (h.strict _ _ hlt).ne
    · push Not at hx
      exact absurd e (h.lt_of_ne _ hr p hx).ne'
  · rintro rfl
    rfl

end Lists

end Cert.Select

end
-- ==== Proof.Token.lean ====
/-
  The contrastive loss of one token.

  The kernel keeps the squared distances of a token from all codes, takes the sixteen least one after the other and
  recovers each cosine from the distance itself: the dot product is half of (the token's squared norm plus the code's
  squared norm minus the distance). It subtracts ten from every logit before the exponential, and takes the negative
  logarithm of the positive's share. The reference gathers the codes, normalises both sides, forms the seventeen
  logits and takes the logarithm of the sum of their exponentials minus the first logit. Both are the same real number.
-/
module

public import Idealize.ShloMosaic.PureOps.Ideal
public import Idealize.ShloMosaic.PureOps.Ideal.Laws
public import Idealize.ShloMosaic.Lib.IdealHost
public import proofs.«01_k».proof.Proof.Select

@[expose] public section

namespace Cert.Token

open Idealize.ShloMosaic

/-- One row of the student, of the teacher or of the codebook. -/
abbrev Row := Fin 32 → EReal

/-- The squared norm of a row. -/
noncomputable def sqn (x : Row) : EReal := ∑ d, x d * x d

/-- The dot product of two rows. -/
noncomputable def dot (x y : Row) : EReal := ∑ d, x d * y d

/-- The least norm a row is divided by. -/
noncomputable def eps : EReal := Ideal.ofBits .f32 0x2B8CBCCC#32

/-- The reciprocal norm that belongs to a squared norm. -/
noncomputable def inv (q : EReal) : EReal := Ideal.div 1 (max (Ideal.sqrt q) eps)

/-- The constants the kernel multiplies, adds and subtracts. -/
noncomputable def two : EReal := Ideal.ofBits .f32 0x40000000#32
/-- Ten: the factor of the cosine and the shift of the logit. -/
noncomputable def ten : EReal := Ideal.ofBits .f32 0x41200000#32
/-- One half. -/
noncomputable def half : EReal := Ideal.ofBits .f32 0x3F000000#32

/-- The squared distance of a token from a code, as both programs form it. -/
noncomputable def sqd (S c : Row) : EReal := (sqn S + sqn c) - two * dot S c

section Kernel
variable {n : ℕ} (S : Row) (C : Fin n → Row) (own : Fin n)

/-- The key of a code: its distance, and infinity for the token's own code. -/
noncomputable def key (k : Fin n) : EReal := if k = own then ⊤ else sqd S (C k)

/-- The positive's exponential as the kernel forms it: one-hot sums pick the own code's dot product and norm. -/
noncomputable def epos : EReal :=
  Ideal.exp ((((∑ k, if k = own then dot S (C k) else 0) * inv (sqn S))
    * inv (∑ k, (if k = own then (1 : EReal) else 0) * sqn (C k))) * ten - ten)

/-- The squared norm of the code whose key is `m`. -/
noncomputable def c2at (m : EReal) : EReal := ∑ k, (if key S C own k = m then (1 : EReal) else 0) * sqn (C k)

/-- One negative's exponential as the kernel forms it from its key `m`. -/
noncomputable def neg (m : EReal) : EReal :=
  Ideal.exp ((((sqn S + c2at S C own m) - m) * half * inv (sqn S) * inv (c2at S C own m)) * ten - ten)

/-- The negatives' exponentials summed up to (not including) round `r`. -/
noncomputable def nege : ℕ → EReal
  | 0 => 0
  | r + 1 => nege r + neg S C own (Select.thr (key S C own) r)

/-- The token's loss as the kernel forms it. -/
noncomputable def lossK : EReal :=
  Ideal.log (epos S C own + nege S C own 16) - Ideal.log (epos S C own)

end Kernel

section Reference

/-- A row divided by its norm. -/
noncomputable def unit (x : Row) (d : Fin 32) : EReal := Ideal.div (x d) (max (Ideal.sqrt (sqn x)) eps)

/-- The cosine of two rows over the temperature. -/
noncomputable def logit (S c : Row) : EReal := (∑ d, unit S d * unit c d) * ten

/-- The token's loss as the reference forms it, from the own code's row and the sixteen negatives' rows. -/
noncomputable def lossR (S c : Row) (N : Fin 16 → Row) : EReal :=
  Ideal.log (∑ i : Fin 17, Ideal.exp ((Fin.cons (logit S c) (fun t => logit S (N t)) : Fin 17 → EReal) i)) - logit S c

end Reference

/-! ## The constants as reals -/

/-- The word for two. -/
theorem two_eq : two = ((2 : ℝ) : EReal) := by
  simp [two, Ideal.ofBits, Ideal.ieee, -EReal.coe_mul]; norm_num

/-- The word for ten. -/
theorem ten_eq : ten = ((10 : ℝ) : EReal) := by
  simp [ten, Ideal.ofBits, Ideal.ieee, -EReal.coe_mul]; norm_num

/-- The word for one half. -/
theorem half_eq : half = ((1 / 2 : ℝ) : EReal) := by
  simp [half, Ideal.ofBits, Ideal.ieee, -EReal.coe_mul]; norm_num

/-- The least norm is a positive real. -/
theorem eps_pos : ∃ e : ℝ, 0 < e ∧ eps = (e : EReal) := by
  refine ⟨_, ?_, by simp [eps, Ideal.ofBits, Ideal.ieee, -EReal.coe_mul]; rfl⟩
  positivity

/-! ## Real data -/

/-- A finite sum of reals, seen as an extended real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A real row. -/
abbrev up (x : Fin 32 → ℝ) : Row := fun d => ((x d : ℝ) : EReal)

/-- The squared norm of a real row. -/
theorem sqn_up (x : Fin 32 → ℝ) : sqn (up x) = ((∑ d, x d * x d : ℝ) : EReal) := by
  simp only [sqn, up, ← EReal.coe_mul, coe_sum]

/-- The dot product of two real rows. -/
theorem dot_up (x y : Fin 32 → ℝ) : dot (up x) (up y) = ((∑ d, x d * y d : ℝ) : EReal) := by
  simp only [dot, up, ← EReal.coe_mul, coe_sum]

/-- The root of a real that is not negative. -/
theorem sqrt_up {q : ℝ} (h : 0 ≤ q) : Ideal.sqrt (q : EReal) = ((Real.sqrt q : ℝ) : EReal) := by
  rw [Ideal.sqrt_coe, if_neg (not_lt.mpr h)]

/-- The greater of two reals. -/
theorem coe_max (a b : ℝ) : max (a : EReal) (b : EReal) = ((max a b : ℝ) : EReal) :=
  (EReal.coe_strictMono.monotone.map_max).symm

/-- The squared distance of two real rows is a real that is not negative. -/
theorem sqd_up (s c : Fin 32 → ℝ) : sqd (up s) (up c) = ((∑ d, (s d - c d) * (s d - c d) : ℝ) : EReal) := by
  rw [sqd, sqn_up, sqn_up, dot_up, two_eq, ← EReal.coe_add, ← EReal.coe_mul, ← EReal.coe_sub]
  congr 1
  rw [Finset.mul_sum, ← Finset.sum_add_distrib, ← Finset.sum_sub_distrib]
  exact Finset.sum_congr rfl fun d _ => by ring

/-- The kernel's loss of a token is the reference's, when the rows are finite and `σ` lists the sixteen least keys in
    their order with a next one above them. -/
theorem lossK_eq_lossR {n : ℕ} (s : Fin 32 → ℝ) (c : Fin n → Fin 32 → ℝ) (own : Fin n) (σ : Fin 17 → Fin n)
    (h : Select.Lists (key (up s) (fun k => up (c k)) own) σ) :
    lossK (up s) (fun k => up (c k)) own
      = lossR (up s) (up (c own)) (fun t => up (c (σ (t.castLE (by omega))))) := by
  classical
  obtain ⟨e, he, heps⟩ := eps_pos
  -- the reciprocal norm of a real row
  let nrm : (Fin 32 → ℝ) → ℝ := fun x => max (Real.sqrt (∑ d, x d * x d)) e
  have hn (x) : 0 < nrm x := lt_of_lt_of_le he (le_max_right _ _)
  have hmax (x : Fin 32 → ℝ) : max (Ideal.sqrt (sqn (up x))) eps = ((nrm x : ℝ) : EReal) := by
    rw [sqn_up, sqrt_up (Finset.sum_nonneg fun d _ => mul_self_nonneg _), heps, coe_max]
  have hinv (x : Fin 32 → ℝ) : inv (sqn (up x)) = ((1 / nrm x : ℝ) : EReal) := by
    rw [inv, hmax, Ideal.div_coe (hn x).ne', one_mul]
  let l : (Fin 32 → ℝ) → ℝ := fun y => (∑ d, s d * y d) * (1 / nrm s) * (1 / nrm y) * 10
  have hlogit (y : Fin 32 → ℝ) : logit (up s) (up y) = ((l y : ℝ) : EReal) := by
    rw [logit]
    have hu (x : Fin 32 → ℝ) (d) : unit (up x) d = ((x d * (1 / nrm x) : ℝ) : EReal) := by
      rw [unit, hmax, Ideal.div_coe (hn x).ne', EReal.coe_mul]
    simp only [hu, ← EReal.coe_mul, coe_sum, ten_eq]
    congr 1
    simp only [l]
    congr 1
    rw [Finset.sum_mul, Finset.sum_mul]
    exact Finset.sum_congr rfl fun d _ => by ring
  have hepos : epos (up s) (fun k => up (c k)) own = ((Real.exp (l (c own) - 10) : ℝ) : EReal) := by
    rw [epos]
    simp only [ite_mul, one_mul, zero_mul, Finset.sum_ite_eq', Finset.mem_univ, if_true]
    rw [hinv, hinv, dot_up, ten_eq, ← EReal.coe_mul, ← EReal.coe_mul, ← EReal.coe_mul, ← EReal.coe_sub, Ideal.exp_coe]
  -- the round's key and what is recovered from it
  have hneg (r : ℕ) (hr : r < 16) :
      neg (up s) (fun k => up (c k)) own (Select.thr (key (up s) (fun k => up (c k)) own) r)
        = ((Real.exp (l (c (σ ⟨r, by omega⟩)) - 10) : ℝ) : EReal) := by
    have hthr := h.thr_eq r (by omega)
    have hlt : key (up s) (fun k => up (c k)) own (σ ⟨r, by omega⟩) < key (up s) (fun k => up (c k)) own (σ ⟨r + 1, by omega⟩) :=
      h.strict _ _ (Fin.mk_lt_mk.mpr (by omega))
    have hown : σ ⟨r, by omega⟩ ≠ own := by
      intro ho
      rw [key, if_pos ho] at hlt
      exact not_top_lt hlt
    have hc2 : c2at (up s) (fun k => up (c k)) own (Select.thr (key (up s) (fun k => up (c k)) own) r)
        = sqn (up (c (σ ⟨r, by omega⟩))) := by
      rw [c2at]
      simp only [h.eq_thr_iff r (by omega : r < 16), ite_mul, one_mul, zero_mul, Finset.sum_ite_eq', Finset.mem_univ, if_true]
    rw [neg, hc2, hthr, key, if_neg hown, hinv, hinv, sqd_up, sqn_up, sqn_up, half_eq, ten_eq]
    simp only [← EReal.coe_add, ← EReal.coe_sub, ← EReal.coe_mul, Ideal.exp_coe]
    congr 3
    simp only [l]
    congr 3
    rw [← Finset.sum_add_distrib, ← Finset.sum_sub_distrib, Finset.sum_mul]
    exact Finset.sum_congr rfl fun d _ => by ring
  have hnege (r : ℕ) (hr : r ≤ 16) : nege (up s) (fun k => up (c k)) own r
      = ((∑ t : Fin r, Real.exp (l (c (σ ⟨t, by omega⟩)) - 10) : ℝ) : EReal) := by
    induction r with
    | zero => simp [nege]
    | succ r ih =>
      rw [nege, ih (by omega), hneg r (by omega), ← EReal.coe_add, Fin.sum_univ_castSucc]
      rfl
  rw [lossK, hepos, hnege 16 le_rfl, lossR, hlogit, Fin.sum_univ_succ (n := 16)]
  simp only [Fin.cons_zero, Fin.cons_succ, hlogit, Ideal.exp_coe, coe_sum, ← EReal.coe_add]
  set P : ℝ := Real.exp (l (c own)) + ∑ t : Fin 16, Real.exp (l (c (σ (t.castLE (by omega))))) with hP
  have hPpos : 0 < P := by positivity
  have hsum : Real.exp (l (c own) - 10) + ∑ t : Fin 16, Real.exp (l (c (σ ⟨t, by omega⟩)) - 10) = P * Real.exp (-10) := by
    simp only [sub_eq_add_neg, Real.exp_add, hP, add_mul, Finset.sum_mul]
    rfl
  rw [hsum, Ideal.log_coe, Ideal.log_coe, Ideal.log_coe, if_neg (not_le.mpr (by positivity)),
    if_neg (not_le.mpr (Real.exp_pos _)), if_neg (not_le.mpr hPpos), Real.log_mul hPpos.ne' (Real.exp_pos _).ne',
    Real.log_exp, Real.log_exp, ← EReal.coe_sub, ← EReal.coe_sub]
  congr 1
  ring

end Cert.Token

end
-- ==== Proof.Tokens.lean ====
/-
  The tokens and the codebook, read off the arguments.

  The 4096 tokens are numbered through the four batches of 1024. A token's row is read off an array of features, its
  code off the array of codes, and the token of the same position one batch earlier (the first batch taking the last)
  gives its negative teacher.
-/
module

public import Idealize.ShloMosaic.Lib.ValueIdx
public import proofs.«01_k».proof.Proof.Token

@[expose] public section

noncomputable section

namespace Cert.Tokens

open Idealize.ShloMosaic Idealize.ShloMosaic.ValueIdx Cert.Token

/-- The batch of a token. -/
def batch (n : Fin 4096) : Fin 4 := ⟨n.val / 1024, by omega⟩

/-- The position of a token in its batch. -/
def pos (n : Fin 4096) : Fin 1024 := ⟨n.val % 1024, by omega⟩

/-- The token at the same position one batch earlier, around. -/
def prev (n : Fin 4096) : Fin 4096 := ⟨(n.val + 3072) % 4096, by omega⟩

/-- A token's row in an array of features. -/
def rowAt (x : (⟨3, ![4, 1024, 32]⟩ : Shape).Idx → EReal) (n : Fin 4096) : Row := fun d => x (ix3 (batch n) (pos n) d)

/-- A token's code word. -/
def codeAt (k : (⟨2, ![4, 1024]⟩ : Shape).Idx → BitVec 32) (n : Fin 4096) : BitVec 32 := k (ix2 (batch n) (pos n))

/-- A code's row in the codebook. -/
def code (x : (⟨2, ![8192, 32]⟩ : Shape).Idx → EReal) (k : Fin 8192) : Row := fun d => x (ix2 k d)

/-- Row `p` of block `g`, as a token. -/
def tok (g : Fin 32) (p : Fin 128) : Fin 4096 := ⟨128 * g.val + p.val, by omega⟩

/-- The squared error of two rows. -/
def gap (x y : Row) : EReal := ∑ d, (x d - y d) * (x d - y d)

/-- A token's triplet loss. -/
def trip (S T R : Row) : EReal := max ((Ideal.sqrt (gap S T) - Ideal.sqrt (gap S R)) + Ideal.ofBits .f32 0x3E4CCCCD#32) 0

end Cert.Tokens

end
-- ==== Proof.RefGlobal.lean ====
/-
  The reference's feature and triplet losses, token by token.
-/
module

public import proofs.«01_k».proof.Proof.Gen.ReferenceIdeal.Read
public import Idealize.ShloMosaic.Lib.IdealHost
public import proofs.«01_k».proof.Proof.Tokens

@[expose] public section

noncomputable section

namespace Cert.ReferenceIdeal.Global

open Cert.ReferenceIdeal Cert.ReferenceIdeal.Gen Cert.ReferenceIdeal.Read
open Idealize.ShloMosaic
open Idealize.ShloMosaic.ValueIdx Cert.Tokens Cert.Token

/-- A constant of the program, read over the reals. -/
theorem word_at (b : BitVec 32) : (FloatOps.ofBits (F := Ideal) .f32 b : EReal) = Ideal.ofBits .f32 b := rfl

/-- A constant zero of the program. -/
theorem zero_at : (FloatOps.ofBits (F := Ideal) .f32 0x00000000#32 : EReal) = 0 :=
  (word_at _).trans Ideal.ofBits_zero_f32

/-- A constant one of the program. -/
theorem one_at : (FloatOps.ofBits (F := Ideal) .f32 0x3F800000#32 : EReal) = 1 :=
  (word_at _).trans Ideal.ofBits_one_f32

/-! ## Sums over the tokens -/

/-- The tokens, batch by batch. -/
theorem sum_batches {M : Type} [AddCommMonoid M] (f : Fin 4 → Fin 1024 → M) :
    ∑ b, ∑ p, f b p = ∑ n, f (batch n) (pos n) := by
  rw [← Fintype.sum_prod_type']
  refine Finset.sum_bij' (fun q _ => (⟨1024 * q.1.val + q.2.val, by have := q.1.isLt; have := q.2.isLt; omega⟩ : Fin 4096))
    (fun n _ => (batch n, pos n)) (fun _ _ => Finset.mem_univ _) (fun _ _ => Finset.mem_univ _) ?_ ?_ ?_
  · rintro ⟨b, p⟩ -
    refine Prod.ext (Fin.ext ?_) (Fin.ext ?_)
    · show (1024 * b.val + p.val) / 1024 = b.val
      omega
    · show (1024 * b.val + p.val) % 1024 = p.val
      omega
  · intro n _
    refine Fin.ext ?_
    show 1024 * (n.val / 1024) + n.val % 1024 = n.val
    omega
  · rintro ⟨b, p⟩ -
    have h1 : batch (⟨1024 * b.val + p.val, by omega⟩ : Fin 4096) = b := Fin.ext (by
      show (1024 * b.val + p.val) / 1024 = b.val
      omega)
    have h2 : pos (⟨1024 * b.val + p.val, by omega⟩ : Fin 4096) = p := Fin.ext (by
      show (1024 * b.val + p.val) % 1024 = p.val
      omega)
    show f b p = f (batch _) (pos _)
    rw [h1, h2]

/-- A sum over the entries of an array of four batches is the sum over the tokens. -/
theorem sum_tokens {M : Type} [AddCommMonoid M] (f : (⟨2, ![4, 1024]⟩ : Shape).Idx → M) :
    ∑ j, f j = ∑ n, f (ix2 (batch n) (pos n)) := by
  rw [sum_idx2]
  exact sum_batches fun b p => f (ix2 b p)

section Read
variable (x0 x1 : (⟨S4x1024x32, .f32⟩ : BufTy).Contents (Elt Ideal)) (n : Fin 4096)

/-- The weight of every token is one. -/
theorem weight (i : S4x1024.Idx) : val_main_v0 (F := Ideal) i = (1 : EReal) := by
  rw [val_main_v0_apply, val_main_cst_apply, one_at]

/-- The first squared error of a token. -/
theorem gap_teacher : val_main_v3 (F := Ideal) x0 x1 (ix2 (batch n) (pos n)) = gap (rowAt x0 n) (rowAt x1 n) := by
  rw [val_main_v3_apply, val_main_cst_0_apply, zero_at, zero_add]
  refine Finset.sum_congr rfl fun d _ => ?_
  rw [val_main_v2_apply, val_main_v1_apply, eq_ix3 (idx_main_v3 _ _)]
  rfl

/-- The same squared error, formed again for the triplet loss. -/
theorem gap_again : val_main_v13 (F := Ideal) x0 x1 (ix2 (batch n) (pos n)) = gap (rowAt x0 n) (rowAt x1 n) := by
  rw [val_main_v13_apply, val_main_cst_5_apply, zero_at, zero_add]
  refine Finset.sum_congr rfl fun d _ => ?_
  rw [val_main_v12_apply, val_main_v11_apply, eq_ix3 (idx_main_v13 _ _)]
  rfl

/-- The array rolled by one batch holds the previous token's row. -/
theorem roll (d : Fin 32) : val_main_v15 (F := Ideal) x1 (ix3 (batch n) (pos n) d) = rowAt x1 (prev n) d := by
  unfold val_main_v15
  by_cases hb : (batch n).val < 1
  · rw [concatenate_pair_apply_left 0 _ _ concatenates_S1x1024x32_S3x1024x32_S4x1024x32_d0 _ rfl
      (ix3 (0 : Fin 1) (pos n) d) (fun b => by
        match b with
        | ⟨0, _⟩ => show 0 = (batch n).val; omega
        | ⟨1, _⟩ => rfl
        | ⟨2, _⟩ => rfl), val_main_call0_v0_apply, eq_ix3 (idx_main_call0_v0 _)]
    have h1 : (⟨3 + 0, by omega⟩ : Fin 4) = batch (prev n) := Fin.ext (by
      have h : n.val / 1024 < 1 := hb
      show 3 + 0 = (n.val + 3072) % 4096 / 1024
      omega)
    have h2 : pos n = pos (prev n) := Fin.ext (by
      show n.val % 1024 = (n.val + 3072) % 4096 % 1024
      omega)
    show x1 (ix3 (⟨3 + 0, by omega⟩ : Fin 4) (pos n) d) = x1 (ix3 (batch (prev n)) (pos (prev n)) d)
    rw [h1, ← h2]
  · have hlt := (batch n).isLt
    rw [concatenate_pair_apply_right 0 _ _ concatenates_S1x1024x32_S3x1024x32_S4x1024x32_d0 _ rfl rfl
      (ix3 (⟨(batch n).val - 1, by omega⟩ : Fin 3) (pos n) d) (fun b hne => by
        match b with
        | ⟨0, _⟩ => exact absurd rfl hne
        | ⟨1, _⟩ => rfl
        | ⟨2, _⟩ => rfl) (by show (batch n).val - 1 + 1 = (batch n).val; omega), val_main_call0_v1_apply,
      eq_ix3 (idx_main_call0_v1 _)]
    have h1 : (⟨(batch n).val - 1, by omega⟩ : Fin 4) = batch (prev n) := Fin.ext (by
      have h : ¬ n.val / 1024 < 1 := hb
      show n.val / 1024 - 1 = (n.val + 3072) % 4096 / 1024
      omega)
    have h2 : pos n = pos (prev n) := Fin.ext (by
      show n.val % 1024 = (n.val + 3072) % 4096 % 1024
      omega)
    show x1 (ix3 (⟨(batch n).val - 1, by omega⟩ : Fin 4) (pos n) d) = x1 (ix3 (batch (prev n)) (pos (prev n)) d)
    rw [h1, ← h2]

/-- The squared error against the previous token's teacher. -/
theorem gap_rolled : val_main_v18 (F := Ideal) x0 x1 (ix2 (batch n) (pos n)) = gap (rowAt x0 n) (rowAt x1 (prev n)) := by
  rw [val_main_v18_apply, val_main_cst_6_apply, zero_at, zero_add]
  refine Finset.sum_congr rfl fun d _ => ?_
  have e : idx_main_v18 (ix2 (batch n) (pos n)) d = ix3 (batch n) (pos n) d := eq_ix3 _
  rw [val_main_v17_apply, val_main_v16_apply, e, roll]
  rfl

/-- The triplet loss of a token. -/
theorem triplet : val_main_v23 (F := Ideal) x0 x1 (ix2 (batch n) (pos n))
    = trip (rowAt x0 n) (rowAt x1 n) (rowAt x1 (prev n)) := by
  rw [val_main_v23_apply, val_main_v22_apply, val_main_v20_apply, val_main_v14_apply, val_main_v19_apply, gap_again,
    gap_rolled, val_main_v21_apply, val_main_cst_7_apply, val_main_call1_v0_apply, val_main_call1_cst_apply, zero_at, word_at]
  rfl

/-- The number of tokens, summed from the weights. -/
def count : EReal := ∑ _n : Fin 4096, (1 : EReal)

/-- The feature loss: the mean over the tokens of the mean squared error. -/
theorem feature (i : S_.Idx) : val_main_v10 (F := Ideal) x0 x1 i
    = 1 * Ideal.div (∑ n, Ideal.div (gap (rowAt x0 n) (rowAt x1 n)) (Ideal.ofBits .f32 0x42000000#32) * 1) count := by
  have e7 : val_main_v7 (F := Ideal) x0 x1 i
      = ∑ n, Ideal.div (gap (rowAt x0 n) (rowAt x1 n)) (Ideal.ofBits .f32 0x42000000#32) * 1 := by
    rw [val_main_v7_apply, val_main_cst_2_apply, zero_at, zero_add, sum_tokens]
    refine Finset.sum_congr rfl fun n _ => ?_
    rw [val_main_v6_apply, weight, val_main_v5_apply, gap_teacher, val_main_v4_apply, val_main_cst_1_apply, word_at]
    rfl
  have e8 : val_main_v8 (F := Ideal) i = count := by
    rw [val_main_v8_apply, val_main_cst_3_apply, zero_at, zero_add, sum_tokens]
    exact Finset.sum_congr rfl fun n _ => weight _
  rw [val_main_v10_apply, val_main_cst_4_apply, one_at, val_main_v9_apply, e7, e8]
  rfl

/-- The triplet loss: the mean over the tokens. -/
theorem tripletMean (i : S_.Idx) : val_main_v28 (F := Ideal) x0 x1 i
    = 1 * Ideal.div (∑ n, trip (rowAt x0 n) (rowAt x1 n) (rowAt x1 (prev n)) * 1) count := by
  have e25 : val_main_v25 (F := Ideal) x0 x1 i = ∑ n, trip (rowAt x0 n) (rowAt x1 n) (rowAt x1 (prev n)) * 1 := by
    rw [val_main_v25_apply, val_main_cst_8_apply, zero_at, zero_add, sum_tokens]
    refine Finset.sum_congr rfl fun n _ => ?_
    rw [val_main_v24_apply, weight, triplet]
    rfl
  have e26 : val_main_v26 (F := Ideal) i = count := by
    rw [val_main_v26_apply, val_main_cst_9_apply, zero_at, zero_add, sum_tokens]
    exact Finset.sum_congr rfl fun n _ => weight _
  rw [val_main_v28_apply, val_main_cst_10_apply, one_at, val_main_v27_apply, e25, e26]
  rfl

end Read

end Cert.ReferenceIdeal.Global

end
-- ==== Proof.RefOps.lean ====
/-
  The reference's operations whose result element depends on the values of an operand: rows looked up by an index, one
  element per row set by an index, the greatest elements of a row.
-/
module

public import Idealize.ShloMosaic.Lib.ValueIdx
public import Idealize.ShloMosaic.Lib.Pipeline.Value
public import Idealize.ShloMosaic.Lib.Routing.OpsSet
public import Idealize.ShloMosaic.Lib.SortFacts
public import Idealize.ShloMosaic.PureOps.Ideal.Laws

@[expose] public section

namespace Cert.RefOps

open Idealize.ShloMosaic
open Idealize.ShloMosaic.ValueIdx

/-! ## Rows looked up -/

section Rows
variable {α : Type}

/-- The dimension numbers by which an array of row numbers looks up whole rows. -/
abbrev rowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- A row looked up by the number of a row is that row. -/
theorem rows_apply {N D R C : Nat}
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ 32) (r : Fin R) (c : Fin C) (d : Fin D) (k : Fin N)
    (hk : (idx (ix3 r c (0 : Fin 1))).toInt = (k.val : Int)) :
    Host.gather (rowsDims N D R C wf) x idx (ix3 r c d) = x (ix2 k d) := by
  unfold Host.gather
  congr 1
  funext a
  refine Fin.ext ?_
  show (rowsDims N D R C wf).start (ix3 r c d) idx a + (rowsDims N D R C wf).batchCoord (ix3 r c d) a
      + (rowsDims N D R C wf).offCoord (ix3 r c d) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)),
      Nat.add_zero]
    unfold GatherDims.start
    rw [dif_pos (show (0 : Fin 2) ∈ (rowsDims N D R C wf).startIndexMap from List.mem_singleton.mpr rfl)]
    have hsi : (rowsDims N D R C wf).siIdx (ix3 r c d) ⟨List.idxOf (0 : Fin 2) (rowsDims N D R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi, hk]
    show min (Int.toNat (k.val : Int)) (N - 1) = k.val
    have := k.isLt
    omega
  · have hs : (rowsDims N D R C wf).start (ix3 r c d) idx 1 = 0 := by
      unfold GatherDims.start
      rw [dif_neg (by simp)]
    rw [hs, Nat.zero_add]
    unfold GatherDims.offCoord
    rw [dif_pos ((GatherDims.mem_sKept _ _).mpr ⟨by simp, List.not_mem_nil⟩)]
    rfl

end Rows

/-! ## One element per row set -/

section Mask
variable {α : Type}

/-- The dimension numbers by which pairs of coordinates set one element each. -/
abbrev maskDims (R C : Nat) (wf : ScatterDims.WF ⟨2, ![R, C]⟩ ⟨2, ![R, 2]⟩ ⟨1, ![R]⟩ [] [0, 1] [0, 1] 1) :
    ScatterDims ⟨2, ![R, C]⟩ ⟨2, ![R, 2]⟩ ⟨1, ![R]⟩ where
  updateWindowDims := []
  insertedWindowDims := [0, 1]
  scatterDimsToOperandDims := [0, 1]
  indexVectorDim := 1
  wf := wf

/-- Where the update of row `m` lands. -/
theorem mask_lands {R C : Nat} (wf : ScatterDims.WF ⟨2, ![R, C]⟩ ⟨2, ![R, 2]⟩ ⟨1, ![R]⟩ [] [0, 1] [0, 1] 1)
    (idx : IVec ⟨2, ![R, 2]⟩ 32) (own : Fin R → Fin C) (h0 : ∀ n, (idx (ix2 n (0 : Fin 2))).toInt = (n.val : Int))
    (h1 : ∀ n, (idx (ix2 n (1 : Fin 2))).toInt = ((own n).val : Int)) (m : Fin R) :
    (maskDims R C wf).resultIdx? (ix1 m) idx = some (ix2 m (own m)) := by
  have hw (a : Fin 2) : (maskDims R C wf).window (ix1 m) a = 0 := by
    unfold ScatterDims.window
    rw [dif_neg fun h => (of_decide_eq_true (List.mem_filter.1 h).2) (by
      match a with
      | ⟨0, _⟩ => exact List.mem_cons_self
      | ⟨1, _⟩ => exact List.mem_cons_of_mem _ (List.mem_singleton.2 rfl))]
  have s0 : (maskDims R C wf).start (ix1 m) idx 0 = (m.val : Int) := by
    have hm : (0 : Fin 2) ∈ (maskDims R C wf).scatterDimsToOperandDims := List.mem_cons_self
    unfold ScatterDims.start
    rw [dif_pos hm]
    have hsi : (maskDims R C wf).siIdx (ix1 m) ⟨(maskDims R C wf).scatterDimsToOperandDims.idxOf 0, List.idxOf_lt_length_iff.2 hm⟩
        = ix2 m (0 : Fin 2) := by
      funext b; refine Fin.ext ?_
      match b with
      | ⟨0, _⟩ => rfl
      | ⟨1, _⟩ => rfl
    rw [hsi, h0]
  have s1 : (maskDims R C wf).start (ix1 m) idx 1 = ((own m).val : Int) := by
    have hm : (1 : Fin 2) ∈ (maskDims R C wf).scatterDimsToOperandDims := List.mem_cons_of_mem _ (List.mem_singleton.2 rfl)
    unfold ScatterDims.start
    rw [dif_pos hm]
    have hsi : (maskDims R C wf).siIdx (ix1 m) ⟨(maskDims R C wf).scatterDimsToOperandDims.idxOf 1, List.idxOf_lt_length_iff.2 hm⟩
        = ix2 m (1 : Fin 2) := by
      funext b; refine Fin.ext ?_
      match b with
      | ⟨0, _⟩ => rfl
      | ⟨1, _⟩ => rfl
    rw [hsi, h1]
  have hin : ∀ a : Fin 2, 0 ≤ (maskDims R C wf).start (ix1 m) idx a + (maskDims R C wf).window (ix1 m) a
      ∧ (maskDims R C wf).start (ix1 m) idx a + (maskDims R C wf).window (ix1 m) a < ((⟨2, ![R, C]⟩ : Shape).size a : Int) := by
    intro a
    rw [hw]
    match a with
    | ⟨0, _⟩ =>
      show 0 ≤ (maskDims R C wf).start (ix1 m) idx 0 + ((0 : ℕ) : Int) ∧ (maskDims R C wf).start (ix1 m) idx 0 + ((0 : ℕ) : Int) < (R : Int)
      rw [s0]; have := m.isLt; omega
    | ⟨1, _⟩ =>
      show 0 ≤ (maskDims R C wf).start (ix1 m) idx 1 + ((0 : ℕ) : Int) ∧ (maskDims R C wf).start (ix1 m) idx 1 + ((0 : ℕ) : Int) < (C : Int)
      rw [s1]; have := (own m).isLt; omega
  unfold ScatterDims.resultIdx?
  rw [dif_pos hin]
  congr 1
  funext a
  refine Fin.ext ?_
  show ((maskDims R C wf).start (ix1 m) idx a + (maskDims R C wf).window (ix1 m) a).toNat = _
  rw [hw]
  match a with
  | ⟨0, _⟩ =>
    show ((maskDims R C wf).start (ix1 m) idx 0 + ((0 : ℕ) : Int)).toNat = m.val
    rw [s0]; omega
  | ⟨1, _⟩ =>
    show ((maskDims R C wf).start (ix1 m) idx 1 + ((0 : ℕ) : Int)).toNat = (own m).val
    rw [s1]; omega

/-- Row `n` holds the new value at its own column and the old values elsewhere. -/
theorem mask_apply {R C : Nat} (wf : ScatterDims.WF ⟨2, ![R, C]⟩ ⟨2, ![R, 2]⟩ ⟨1, ![R]⟩ [] [0, 1] [0, 1] 1)
    (x : (⟨2, ![R, C]⟩ : Shape).Idx → α) (idx : IVec ⟨2, ![R, 2]⟩ 32) (upd : (⟨1, ![R]⟩ : Shape).Idx → α) (v : α)
    (hv : ∀ i, upd i = v) (own : Fin R → Fin C) (h0 : ∀ n, (idx (ix2 n (0 : Fin 2))).toInt = (n.val : Int))
    (h1 : ∀ n, (idx (ix2 n (1 : Fin 2))).toInt = ((own n).val : Int)) (n : Fin R) (k : Fin C) :
    Host.scatter (maskDims R C wf) (fun _ b => b) x idx upd (ix2 n k) = if k = own n then v else x (ix2 n k) := by
  by_cases hk : k = own n
  · rw [if_pos hk]
    refine Routing.scatter_set_hit _ _ _ _ _ v (fun i _ => hv i) (ix1 n) ?_
    rw [mask_lands wf idx own h0 h1 n, hk]
  · rw [if_neg hk]
    refine Routing.scatter_set_miss _ _ _ _ _ fun i hi => hk ?_
    obtain ⟨m, rfl⟩ : ∃ m : Fin R, i = ix1 m := ⟨i 0, eq_ix1 i⟩
    rw [mask_lands wf idx own h0 h1] at hi
    have e := Option.some.inj hi
    have e0 : m = n := congrFun e 0
    have e1 : own m = k := congrFun e 1
    rw [← e1, e0]

end Mask

/-! ## The greatest elements of a row -/

/-- Position `p` comes before position `q`: its element is greater. -/
noncomputable def greater {n : Nat} (f : Fin n → EReal) (p q : Fin n) : Bool := decide (f q < f p)

section Top
variable {R C K : Nat} (x : (⟨2, ![R, C]⟩ : Shape).Idx → EReal) (hK : K ≤ C)
  (h : (⟨2, ![R, C]⟩ : Shape).Slices (fun _ => 0) ⟨2, ![R, K]⟩) (n : Fin R) (i : Fin K)

/-- The order the sort uses within a row. -/
theorem order_row (c : Fin C) :
    (fun k k' : Fin C => (FloatOps.cmpfTotal (F := Ideal) (φ := .f32) .gt
        (x ((ix2 n c : (⟨2, ![R, C]⟩ : Shape).Idx).along (1 : Fin 2) k)) (x ((ix2 n c : (⟨2, ![R, C]⟩ : Shape).Idx).along (1 : Fin 2) k')) == 1#1))
      = greater fun k => x (ix2 n k) := by
  have e (k : Fin C) : (ix2 n c : (⟨2, ![R, C]⟩ : Shape).Idx).along (1 : Fin 2) k = ix2 n k := by
    funext b
    match b with
    | ⟨0, _⟩ => rfl
    | ⟨1, _⟩ => rfl
  funext k k'
  rw [e, e, Ideal.cmpfTotal_def]
  show (BitVec.ofBool (decide (x (ix2 n k') < x (ix2 n k))) == 1#1) = decide (x (ix2 n k') < x (ix2 n k))
  cases decide (x (ix2 n k') < x (ix2 n k)) <;> rfl

/-- The `i`-th greatest element of row `n`. -/
theorem top_value :
    (Host.topK ⟨2, ![R, K]⟩ 1 (FloatOps.cmpfTotal (F := Ideal) (φ := .f32) .gt) x h).1 (ix2 n i)
      = x (ix2 n (sortedFrom (greater fun k => x (ix2 n k)) (i.castLE hK))) := by
  unfold Host.topK
  dsimp only
  rw [extractStridedSlice_apply _ _ h (ix2 n i) (ix2 n (i.castLE hK)) (fun a => by
    match a with
    | ⟨0, _⟩ => exact (Nat.zero_add _).symm
    | ⟨1, _⟩ => exact (Nat.zero_add _).symm)]
  unfold Host.sort2
  rw [dif_pos (show 1 < (⟨2, ![R, C]⟩ : Shape).rank from Nat.one_lt_two)]
  dsimp only
  refine congrArg x ?_
  rw [← order_row x n (i.castLE hK)]
  funext b
  match b with
  | ⟨0, _⟩ => rfl
  | ⟨1, _⟩ => rfl

/-- The position of the `i`-th greatest element of row `n`. -/
theorem top_index :
    (Host.topK ⟨2, ![R, K]⟩ 1 (FloatOps.cmpfTotal (F := Ideal) (φ := .f32) .gt) x h).2 (ix2 n i)
      = BitVec.ofNat 32 (sortedFrom (greater fun k => x (ix2 n k)) (i.castLE hK)).val := by
  unfold Host.topK
  dsimp only
  rw [extractStridedSlice_apply _ _ h (ix2 n i) (ix2 n (i.castLE hK)) (fun a => by
    match a with
    | ⟨0, _⟩ => exact (Nat.zero_add _).symm
    | ⟨1, _⟩ => exact (Nat.zero_add _).symm)]
  unfold Host.sort2
  rw [dif_pos (show 1 < (⟨2, ![R, C]⟩ : Shape).rank from Nat.one_lt_two)]
  dsimp only
  rw [dif_pos (show 1 < (⟨2, ![R, C]⟩ : Shape).rank from Nat.one_lt_two), ← order_row x n (i.castLE hK)]
  rfl

end Top

end Cert.RefOps

end
-- ==== Proof.RefToken.lean ====
/-
  The reference's contrastive loss, token by token.

  With the codes in the codebook's range the own code is looked up as it stands, and the mask is infinite at the own code
  alone. The sixteen neighbours are the positions the sort puts first.
-/
module

public import proofs.«01_k».proof.Proof.RefGlobal
public import proofs.«01_k».proof.Proof.RefOps

@[expose] public section

noncomputable section

namespace Cert.ReferenceIdeal.Contrast

open Cert.ReferenceIdeal Cert.ReferenceIdeal.Gen Cert.ReferenceIdeal.Read Cert.ReferenceIdeal.Global
open Idealize.ShloMosaic
open Idealize.ShloMosaic.ValueIdx Cert.Tokens Cert.Token Cert.RefOps

/-! ## Words -/

/-- A small number read signed. -/
theorem word_int (k : ℕ) (h : k < 2 ^ 31) : (BitVec.ofNat 32 k).toInt = (k : Int) := by
  rw [BitVec.toInt_eq_toNat_of_lt (by rw [BitVec.toNat_ofNat]; omega), BitVec.toNat_ofNat]
  omega

/-- A number that is not negative is not wrapped. -/
theorem unwrapped (k : ℕ) (h : k < 2 ^ 31) (y : BitVec 32) :
    Scalar.select (IntOp.cmpi .slt (BitVec.ofNat 32 k) 0#32) y (BitVec.ofNat 32 k) = BitVec.ofNat 32 k := by
  have e : IntOp.cmpi .slt (BitVec.ofNat 32 k) 0#32 = 0#1 := by
    show BitVec.ofBool ((BitVec.ofNat 32 k).slt 0#32) = 0#1
    have : (BitVec.ofNat 32 k).slt 0#32 = false := by
      rw [BitVec.slt, word_int k h]
      exact decide_eq_false (by
        show ¬ ((k : Int) < 0)
        omega)
    rw [this]
    rfl
  rw [e]
  exact select_zero _ _

section Read
variable (x0 : (⟨S4x1024x32, .f32⟩ : BufTy).Contents (Elt Ideal)) (x2 : (⟨S4x1024, .i32⟩ : BufTy).Contents (Elt Ideal))
  (x3 : (⟨S8192x32, .f32⟩ : BufTy).Contents (Elt Ideal)) (n : Fin 4096)

/-- Where an element of a token's row lies in the array of batches. -/
theorem student_at (d : Fin 32) : idx_main_v37 (ix2 n d) = ix3 (batch n) (pos n) d := by
  have h0 : (⟨(n.val * 32 + d.val) / 32768, by omega⟩ : Fin 4) = batch n := Fin.ext (by
    show (n.val * 32 + d.val) / 32768 = n.val / 1024
    omega)
  have h1 : (⟨(n.val * 32 + d.val) / 32 % 1024, by omega⟩ : Fin 1024) = pos n := Fin.ext (by
    show (n.val * 32 + d.val) / 32 % 1024 = n.val % 1024
    omega)
  have h2 : (⟨(n.val * 32 + d.val) % 32, by omega⟩ : Fin 32) = d := Fin.ext (by
    show (n.val * 32 + d.val) % 32 = d.val
    omega)
  calc idx_main_v37 (ix2 n d)
      = ix3 (⟨(n.val * 32 + d.val) / 32768, by omega⟩ : Fin 4) (⟨(n.val * 32 + d.val) / 32 % 1024, by omega⟩ : Fin 1024)
          (⟨(n.val * 32 + d.val) % 32, by omega⟩ : Fin 32) := eq_ix3 _
    _ = _ := by rw [h0, h1, h2]

/-- A row of the flat student is the token's row. -/
theorem student (d : Fin 32) : val_main_v37 (F := Ideal) x0 (ix2 n d) = rowAt x0 n d := by
  rw [val_main_v37_apply, student_at]
  rfl

/-- The token's squared norm. -/
theorem student_sqn : val_main_v39 (F := Ideal) x0 (ix1 n) = sqn (rowAt x0 n) := by
  rw [val_main_v39_apply, val_main_cst_12_apply, zero_at, zero_add]
  refine Finset.sum_congr rfl fun d _ => ?_
  have e : idx_main_v39 (ix1 n) d = ix2 n d := eq_ix2 _
  rw [val_main_v38_apply, e, student]
  rfl

/-- A code's squared norm. -/
theorem code_sqn (k : Fin 8192) : val_main_v42 (F := Ideal) x3 (ix1 k) = sqn (code x3 k) := by
  rw [val_main_v42_apply, val_main_cst_13_apply, zero_at, zero_add]
  refine Finset.sum_congr rfl fun d _ => ?_
  have e : idx_main_v42 (ix1 k) d = ix2 k d := eq_ix2 _
  rw [val_main_v41_apply, e]
  rfl

/-- The squared distance of a token from a code. -/
theorem distance (k : Fin 8192) : val_main_v51 (F := Ideal) x0 x3 (ix2 n k) = sqd (rowAt x0 n) (code x3 k) := by
  have e44 : val_main_v44 (F := Ideal) x0 (ix2 n k) = sqn (rowAt x0 n) := by
    have e1 : idx_main_v44 (ix2 n k) = ix2 n (0 : Fin 1) := eq_ix2 _
    have e2 : idx_main_v40 (ix2 n (0 : Fin 1)) = ix1 n := eq_ix1 _
    rw [val_main_v44_apply, e1, val_main_v40_apply, e2, student_sqn]
  have e45 : val_main_v45 (F := Ideal) x3 (ix2 n k) = sqn (code x3 k) := by
    have e1 : idx_main_v45 (ix2 n k) = ix2 (0 : Fin 1) k := eq_ix2 _
    have e2 : idx_main_v43 (ix2 (0 : Fin 1) k) = ix1 k := eq_ix1 _
    rw [val_main_v45_apply, e1, val_main_v43_apply, e2, code_sqn]
  have e48 : val_main_v48 (F := Ideal) x0 x3 (ix2 n k) = dot (rowAt x0 n) (code x3 k) := by
    rw [val_main_v48_apply]
    refine Finset.sum_congr rfl fun d _ => ?_
    have e1 : lidx_main_v48 (ix2 n k) d = ix2 n d := eq_ix2 _
    have e2 : ridx_main_v48 (ix2 n k) d = ix2 d k := eq_ix2 _
    have e3 : idx_main_v47 (ix2 d k) = ix2 k d := eq_ix2 _
    rw [e1, student, e2, val_main_v47_apply, e3]
    rfl
  rw [val_main_v51_apply, val_main_v46_apply, e44, e45, val_main_v50_apply, e48, val_main_v49_apply, val_main_cst_14_apply, word_at]
  rfl

variable {x2} {own : Fin 4096 → Fin 8192} (ho : ∀ n, codeAt x2 n = BitVec.ofNat 32 (own n).val)
include ho

/-- The token's code, looked up in the flat array of codes. -/
theorem own_flat : val_main_v67 (F := Ideal) x2 (ix1 n) = BitVec.ofNat 32 (own n).val := by
  have e : val_main_v55 (F := Ideal) x2 (ix1 n) = BitVec.ofNat 32 (own n).val := by
    have e1 : idx_main_v55 (ix1 n) = ix2 (batch n) (pos n) := eq_ix2 _
    rw [val_main_v55_apply, e1]
    exact ho n
  have hlt := (own n).isLt
  rw [val_main_v67_apply, val_main_v64_apply, val_main_v63_apply, val_main_c_19_apply, e]
  exact unwrapped _ (by omega) _

/-- The pairs of coordinates the mask is set at. -/
theorem pair_row : (val_main_v70 (F := Ideal) x2 (ix2 n (0 : Fin 2))).toInt = (n.val : Int) := by
  have hlt := n.isLt
  unfold val_main_v70
  rw [concatenate_pair_apply_left 1 _ _ concatenates_S4096x1_S4096x1_S4096x2_d1 _ rfl (ix2 n (0 : Fin 1)) (fun b => by
    match b with
    | ⟨0, _⟩ => rfl
    | ⟨1, _⟩ => rfl)]
  have e1 : idx_main_v68 (ix2 n (0 : Fin 1)) = ix1 n := eq_ix1 _
  rw [val_main_v68_apply, e1, val_main_v62_apply, val_main_v59_apply, val_main_v58_apply, val_main_c_17_apply, val_main_v57_apply]
  exact (congrArg BitVec.toInt (unwrapped n.val (by omega) _)).trans (word_int _ (by omega))

/-- The second coordinate is the own code. -/
theorem pair_column : (val_main_v70 (F := Ideal) x2 (ix2 n (1 : Fin 2))).toInt = ((own n).val : Int) := by
  have hlt := (own n).isLt
  unfold val_main_v70
  rw [concatenate_pair_apply_right 1 _ _ concatenates_S4096x1_S4096x1_S4096x2_d1 _ rfl rfl (ix2 n (0 : Fin 1)) (fun b hne => by
    match b with
    | ⟨0, _⟩ => rfl
    | ⟨1, _⟩ => exact absurd rfl hne) rfl]
  have e1 : idx_main_v69 (ix2 n (0 : Fin 1)) = ix1 n := eq_ix1 _
  rw [val_main_v69_apply, e1, own_flat n ho]
  exact word_int _ (by omega)

/-- The mask: infinite at the token's own code, zero elsewhere. -/
theorem mask (k : Fin 8192) : val_main_v72 (F := Ideal) x2 (ix2 n k) = if k = own n then (⊤ : EReal) else 0 := by
  have hv : ∀ i, val_main_v71 (F := Ideal) i = (⊤ : EReal) := fun i => by
    rw [val_main_v71_apply, val_main_cst_21_apply, word_at]
    simp [Ideal.ofBits, Ideal.ieee]
  have h0 : val_main_v56 (F := Ideal) (ix2 n k) = (0 : EReal) := by
    rw [val_main_v56_apply, val_main_cst_16_apply, zero_at]
  unfold val_main_v72
  refine (mask_apply _ _ _ _ (⊤ : EReal) hv own (fun n => pair_row n ho) (fun n => pair_column n ho) n k).trans ?_
  rw [h0]

/-- What the sort orders by: the negated distance, the own code's being minus infinity. -/
theorem score (k : Fin 8192) : val_main_v74 (F := Ideal) x0 x2 x3 (ix2 n k)
    = -(Ideal.sqrt (max (sqd (rowAt x0 n) (code x3 k)) 0) + if k = own n then (⊤ : EReal) else 0) := by
  rw [val_main_v74_apply, val_main_v73_apply, mask n ho, val_main_v54_apply, val_main_v53_apply, distance, val_main_v52_apply,
    val_main_cst_15_apply, zero_at]
  rfl

/-- The own code's row. -/
theorem positive (d : Fin 32) : val_main_v87 (F := Ideal) x2 x3 (ix2 n d) = code x3 (own n) d := by
  have hlt := (own n).isLt
  have hk : (val_main_v35 (F := Ideal) x2 (ix3 (batch n) (pos n) (0 : Fin 1))).toInt = ((own n).val : Int) := by
    have e1 : idx_main_v35 (ix3 (batch n) (pos n) (0 : Fin 1)) = ix2 (batch n) (pos n) := eq_ix2 _
    have e2 : x2 (ix2 (batch n) (pos n)) = BitVec.ofNat 32 (own n).val := ho n
    rw [val_main_v35_apply, e1, val_main_v34_apply, val_main_v31_apply, val_main_v30_apply, val_main_c_apply, e2]
    exact (congrArg BitVec.toInt (unwrapped _ (by omega) _)).trans (word_int _ (by omega))
  have e : idx_main_v87 (ix2 n d) = ix3 (batch n) (pos n) d := student_at n d
  rw [val_main_v87_apply, e]
  unfold val_main_v36
  exact rows_apply _ x3 _ _ _ d (own n) hk

omit ho in
/-- The neighbour of round `t`: the position the sort puts there. -/
def neighbour (x2 : (⟨S4x1024, .i32⟩ : BufTy).Contents (Elt Ideal)) (t : Fin 16) : Fin 8192 :=
  sortedFrom (greater fun k => val_main_v74 (F := Ideal) x0 x2 x3 (ix2 n k)) (t.castLE (by omega))

omit ho in
/-- The sort's indices are the neighbours. -/
theorem neighbour_index (t : Fin 16) : val_main_v79 (F := Ideal) x0 x2 x3 (ix2 n t)
    = BitVec.ofNat 32 (neighbour x0 x3 n x2 t).val := by
  have hlt := (neighbour x0 x3 n x2 t).isLt
  have e : val_main_indices (F := Ideal) x0 x2 x3 (ix2 n t) = BitVec.ofNat 32 (neighbour x0 x3 n x2 t).val := by
    unfold val_main_indices
    exact top_index _ _ _ n t
  rw [val_main_v79_apply, val_main_v76_apply, val_main_v75_apply, val_main_c_22_apply, e]
  exact unwrapped _ (by omega) _

omit ho in
/-- A neighbour's row. -/
theorem negative (t : Fin 16) (d : Fin 32) : val_main_v81 (F := Ideal) x0 x2 x3 (ix3 n t d)
    = code x3 (neighbour x0 x3 n x2 t) d := by
  have hlt := (neighbour x0 x3 n x2 t).isLt
  have hk : (val_main_v80 (F := Ideal) x0 x2 x3 (ix3 n t (0 : Fin 1))).toInt = ((neighbour x0 x3 n x2 t).val : Int) := by
    have e1 : idx_main_v80 (ix3 n t (0 : Fin 1)) = ix2 n t := eq_ix2 _
    rw [val_main_v80_apply, e1, neighbour_index]
    exact word_int _ (by omega)
  unfold val_main_v81
  exact rows_apply _ x3 _ _ _ d (neighbour x0 x3 n x2 t) hk

/-! ## Rows divided by their norms -/

omit ho in
/-- The student's row, normalised. -/
theorem student_unit (d : Fin 32) : val_main_v86 (F := Ideal) x0 (ix2 n d) = unit (rowAt x0 n) d := by
  have e1 : idx_main_v85 (ix2 n d) = ix2 n (0 : Fin 1) := eq_ix2 _
  have e2 : idx_main_call2_v2 (ix2 n (0 : Fin 1)) = ix1 n := eq_ix1 _
  have es : val_main_call2_v1 (F := Ideal) x0 (ix1 n) = sqn (rowAt x0 n) := by
    rw [val_main_call2_v1_apply, val_main_call2_cst_apply, zero_at, zero_add]
    refine Finset.sum_congr rfl fun d _ => ?_
    have e : idx_main_call2_v1 (ix1 n) d = ix2 n d := eq_ix2 _
    rw [val_main_call2_v0_apply, e, student]
    rfl
  rw [val_main_v86_apply, student, val_main_v85_apply, e1, val_main_v84_apply, val_main_v82_apply, val_main_call2_v2_apply, e2, es,
    val_main_v83_apply, val_main_cst_24_apply, word_at]
  rfl

/-- The own code's row, normalised. -/
theorem positive_unit (d : Fin 32) : val_main_v92 (F := Ideal) x2 x3 (ix2 n d) = unit (code x3 (own n)) d := by
  have e1 : idx_main_v91 (ix2 n d) = ix2 n (0 : Fin 1) := eq_ix2 _
  have e2 : idx_main_call3_v2 (ix2 n (0 : Fin 1)) = ix1 n := eq_ix1 _
  have es : val_main_call3_v1 (F := Ideal) x2 x3 (ix1 n) = sqn (code x3 (own n)) := by
    rw [val_main_call3_v1_apply, val_main_call3_cst_apply, zero_at, zero_add]
    refine Finset.sum_congr rfl fun d _ => ?_
    have e : idx_main_call3_v1 (ix1 n) d = ix2 n d := eq_ix2 _
    rw [val_main_call3_v0_apply, e, positive x3 n ho]
    rfl
  rw [val_main_v92_apply, positive x3 n ho, val_main_v91_apply, e1, val_main_v90_apply, val_main_v88_apply, val_main_call3_v2_apply, e2, es,
    val_main_v89_apply, val_main_cst_25_apply, word_at]
  rfl

omit ho in
/-- A neighbour's row, normalised. -/
theorem negative_unit (t : Fin 16) (d : Fin 32) : val_main_v97 (F := Ideal) x0 x2 x3 (ix3 n t d)
    = unit (code x3 (neighbour x0 x3 n x2 t)) d := by
  have e1 : idx_main_v96 (ix3 n t d) = ix3 n t (0 : Fin 1) := eq_ix3 _
  have e2 : idx_main_call4_v2 (ix3 n t (0 : Fin 1)) = ix2 n t := eq_ix2 _
  have es : val_main_call4_v1 (F := Ideal) x0 x2 x3 (ix2 n t) = sqn (code x3 (neighbour x0 x3 n x2 t)) := by
    rw [val_main_call4_v1_apply, val_main_call4_cst_apply, zero_at, zero_add]
    refine Finset.sum_congr rfl fun d _ => ?_
    have e : idx_main_call4_v1 (ix2 n t) d = ix3 n t d := eq_ix3 _
    rw [val_main_call4_v0_apply, e, negative x0 x3 n]
    rfl
  rw [val_main_v97_apply, negative x0 x3 n, val_main_v96_apply, e1, val_main_v95_apply, val_main_v93_apply, val_main_call4_v2_apply, e2, es,
    val_main_v94_apply, val_main_cst_26_apply, word_at]
  rfl

/-! ## The logits and the loss -/

/-- The own code's logit. -/
theorem positive_logit : val_main_v101 (F := Ideal) x0 x2 x3 (ix1 n) = logit (rowAt x0 n) (code x3 (own n)) := by
  have es : val_main_v99 (F := Ideal) x0 x2 x3 (ix1 n) = ∑ d, unit (rowAt x0 n) d * unit (code x3 (own n)) d := by
    rw [val_main_v99_apply, val_main_cst_27_apply, zero_at, zero_add]
    refine Finset.sum_congr rfl fun d _ => ?_
    have e : idx_main_v99 (ix1 n) d = ix2 n d := eq_ix2 _
    rw [val_main_v98_apply, e, student_unit, positive_unit x3 n ho]
    rfl
  rw [val_main_v101_apply, es, val_main_v100_apply, val_main_cst_28_apply, word_at]
  rfl

omit ho in
/-- A neighbour's logit. -/
theorem negative_logit (t : Fin 16) : val_main_v104 (F := Ideal) x0 x2 x3 (ix2 n t)
    = logit (rowAt x0 n) (code x3 (neighbour x0 x3 n x2 t)) := by
  have es : val_main_v102 (F := Ideal) x0 x2 x3 (ix2 n t)
      = ∑ d, unit (rowAt x0 n) d * unit (code x3 (neighbour x0 x3 n x2 t)) d := by
    rw [val_main_v102_apply]
    refine Finset.sum_congr rfl fun d _ => ?_
    have e1 : lidx_main_v102 (ix2 n t) d = ix2 n d := eq_ix2 _
    have e2 : ridx_main_v102 (ix2 n t) d = ix3 n t d := eq_ix3 _
    rw [e1, e2, student_unit, negative_unit]
  rw [val_main_v104_apply, es, val_main_v103_apply, val_main_cst_29_apply, word_at]
  rfl

/-- The seventeen logits of a token: the positive's first, the neighbours' after it. -/
theorem logits (i : Fin 17) : val_main_v106 (F := Ideal) x0 x2 x3 (ix2 n i)
    = (Fin.cons (logit (rowAt x0 n) (code x3 (own n)))
        (fun t => logit (rowAt x0 n) (code x3 (neighbour x0 x3 n x2 t))) : Fin 17 → EReal) i := by
  unfold val_main_v106
  refine Fin.cases ?_ (fun t => ?_) i
  · rw [concatenate_pair_apply_left 1 _ _ concatenates_S4096x1_S4096x16_S4096x17_d1 _ rfl (ix2 n (0 : Fin 1)) (fun b => by
      match b with
      | ⟨0, _⟩ => rfl
      | ⟨1, _⟩ => rfl), Fin.cons_zero]
    have e1 : idx_main_v105 (ix2 n (0 : Fin 1)) = ix1 n := eq_ix1 _
    rw [val_main_v105_apply, e1, positive_logit x0 x3 n ho]
  · rw [concatenate_pair_apply_right 1 _ _ concatenates_S4096x1_S4096x16_S4096x17_d1 _ rfl rfl (ix2 n t) (fun b hne => by
      match b with
      | ⟨0, _⟩ => rfl
      | ⟨1, _⟩ => exact absurd rfl hne) rfl, Fin.cons_succ, negative_logit]

/-- The contrastive loss of a token. -/
theorem loss : val_main_v112 (F := Ideal) x0 x2 x3 (ix1 n)
    = lossR (rowAt x0 n) (code x3 (own n)) (fun t => code x3 (neighbour x0 x3 n x2 t)) := by
  have e108 : val_main_v108 (F := Ideal) x0 x2 x3 (ix1 n)
      = ∑ i : Fin 17, Ideal.exp ((Fin.cons (logit (rowAt x0 n) (code x3 (own n)))
        (fun t => logit (rowAt x0 n) (code x3 (neighbour x0 x3 n x2 t))) : Fin 17 → EReal) i) := by
    rw [val_main_v108_apply, val_main_cst_30_apply, zero_at, zero_add]
    refine Finset.sum_congr rfl fun i _ => ?_
    have e : idx_main_v108 (ix1 n) i = ix2 n i := eq_ix2 _
    rw [val_main_v107_apply, e, logits x0 x3 n ho]
    rfl
  have e111 : val_main_v111 (F := Ideal) x0 x2 x3 (ix1 n) = logit (rowAt x0 n) (code x3 (own n)) := by
    have h0 : (⟨n.val / 1, by omega⟩ : Fin 4096) = n := Fin.ext (Nat.div_one _)
    have e1 : idx_main_v111 (ix1 n) = ix2 n (0 : Fin 1) := by
      calc idx_main_v111 (ix1 n) = ix2 (⟨n.val / 1, by omega⟩ : Fin 4096) (0 : Fin 1) := eq_ix2 _
        _ = _ := by rw [h0]
    have e2 : idx_main_v110 (ix2 n (0 : Fin 1)) = ix2 n (0 : Fin 17) := eq_ix2 _
    rw [val_main_v111_apply, e1, val_main_v110_apply, e2, logits x0 x3 n ho, Fin.cons_zero]
  rw [val_main_v112_apply, val_main_v109_apply, e108, e111]
  rfl

/-- The contrastive term: half the mean over the tokens. -/
theorem contrast (i : S_.Idx) : val_main_v118 (F := Ideal) x0 x2 x3 i
    = half * Ideal.div (∑ n, lossR (rowAt x0 n) (code x3 (own n)) (fun t => code x3 (neighbour x0 x3 n x2 t)) * 1) count := by
  have flat {M : Type} [AddCommMonoid M] (f : (⟨1, ![4096]⟩ : Shape).Idx → M) : ∑ j, f j = ∑ n, f (ix1 n) :=
    Finset.sum_bij' (fun j _ => (j 0 : Fin 4096)) (fun n _ => ix1 n) (fun _ _ => Finset.mem_univ _) (fun _ _ => Finset.mem_univ _)
      (fun j _ => (eq_ix1 j).symm) (fun _ _ => rfl) (fun j _ => congrArg f (eq_ix1 j))
  have e115 : val_main_v115 (F := Ideal) x0 x2 x3 i
      = ∑ n, lossR (rowAt x0 n) (code x3 (own n)) (fun t => code x3 (neighbour x0 x3 n x2 t)) * 1 := by
    rw [val_main_v115_apply, val_main_cst_31_apply, zero_at, zero_add, flat]
    refine Finset.sum_congr rfl fun n _ => ?_
    rw [val_main_v114_apply, loss x0 x3 n ho, val_main_v113_apply, weight]
    rfl
  have e116 : val_main_v116 (F := Ideal) i = count := by
    rw [val_main_v116_apply, val_main_cst_32_apply, zero_at, zero_add, flat]
    exact Finset.sum_congr rfl fun n _ => by rw [val_main_v113_apply, weight]
  rw [val_main_v118_apply, val_main_cst_33_apply, word_at, val_main_v117_apply, e115, e116]
  rfl

/-- The reference's result. -/
theorem result (x1 : (⟨S4x1024x32, .f32⟩ : BufTy).Contents (Elt Ideal)) : val_main_v120 (F := Ideal) x0 x1 x2 x3 = fun _ =>
    (1 * Ideal.div (∑ n, Ideal.div (gap (rowAt x0 n) (rowAt x1 n)) (Ideal.ofBits .f32 0x42000000#32) * 1) count
      + 1 * Ideal.div (∑ n, trip (rowAt x0 n) (rowAt x1 n) (rowAt x1 (prev n)) * 1) count)
      + half * Ideal.div (∑ n, lossR (rowAt x0 n) (code x3 (own n)) (fun t => code x3 (neighbour x0 x3 n x2 t)) * 1) count := by
  funext j
  unfold val_main_v120
  rw [shapeCast_apply _ shapeCasts_S_S1x1 j ix0 (by
    have h0 : (j 0).val < 1 := (j 0).isLt
    have h1 : (j 1).val < 1 := (j 1).isLt
    have := (Shape.rowMajor (⟨0, ![]⟩ : Shape) ix0).isLt
    rw [Shape.rowMajor_val_two]
    have hn : (⟨0, ![]⟩ : Shape).numel = 1 := rfl
    show (Shape.rowMajor (⟨0, ![]⟩ : Shape) ix0).val = (j 0).val * 1 + (j 1).val
    omega)]
  rw [val_main_v119_apply, val_main_v29_apply, feature, tripletMean, contrast x0 x3 ho]
  rfl

end Read

end Cert.ReferenceIdeal.Contrast

end
-- ==== Proof.Pre.lean ====
/-
  What the precondition says of the arguments.

  The student and the codebook are real, every code is a row of the codebook, and the seventeen distances of a token from
  the codes other than its own that come first in order are distinct.
-/
module

public import proofs.«01_k».proof.Pre_separated
public import proofs.«01_k».proof.Proof.RefToken

@[expose] public section

noncomputable section

namespace Cert.Pre

open Idealize.ShloMosaic Idealize.ShloMosaic.ValueIdx
open Cert.Tokens Cert.Token Cert.RefOps Cert.ReferenceIdeal.Read Cert.ReferenceIdeal.Global Cert.ReferenceIdeal.Contrast

/-- The shape relations the precondition's operations take. -/
instance facts : Cert.Pre_separated.Facts where
  shapeCasts_S4x1024x32_S4096x32 := by decide
  shapeCasts_S4x1024_S4096 := by decide
  reducesTo_S4096x32_S4096_d1 := by decide
  h_S_ := by decide
  bcast_S4096_S4096x1_0 := by decide
  reducesTo_S8192x32_S8192_d1 := by decide
  bcast_S8192_S1x8192_1 := by decide
  bcast_S4096x1_S4096x8192_0_1 := by decide
  bcast_S1x8192_S4096x8192_0_1 := by decide
  transposes_S8192x32_S32x8192_1_0 := by decide
  bcast_S_S4096x8192 := by decide
  sliceFits_S4096x8192_S4096x17 := by decide
  bcast_S_S4096x32 := by decide
  bcast_S_S8192x32 := by decide
  bcast_S_S4096 := by decide
  slices_S4096x17_S4096x16_0_1 := by decide
  slices_S4096x17_S4096x16_0_0 := by decide
  dot_S4096x32_S32x8192_S4096x8192_1_0_0_1_n_n_wf := by decide

/-! ## Comparisons read -/

/-- A comparison that came out true. -/
theorem lt_of_olt {a b : EReal} (h : FloatOps.cmpf (F := Ideal) (φ := .f32) .olt a b = 1#1) : a < b := by
  have h' : BitVec.ofBool (decide (a < b)) = 1#1 := h
  by_contra hn
  rw [decide_eq_false hn] at h'
  exact absurd h' (by decide)

/-- A number whose absolute value is below infinity is real. -/
theorem real_of_lt {a : EReal} (h : max a (-a) < ⊤) : a = ((a.toReal : ℝ) : EReal) := by
  refine (EReal.coe_toReal (fun e => ?_) (fun e => ?_)).symm
  · rw [e] at h
    simp at h
  · rw [e] at h
    simp at h

/-- A word between zero and 8192, read signed, is a number below 8192. -/
theorem small_word {v : BitVec 32} (h0 : IntOp.cmpi .sge v 0#32 = 1#1) (h1 : IntOp.cmpi .slt v 8192#32 = 1#1) :
    v.toNat < 8192 := by
  have g0 : (0 : Int) ≤ v.toInt := by
    by_contra hn
    have e : IntOp.cmpi .sge v 0#32 = BitVec.ofBool (decide ((0 : Int) ≤ v.toInt)) := rfl
    rw [e, decide_eq_false hn] at h0
    exact absurd h0 (by decide)
  have g1 : v.toInt < 8192 := by
    by_contra hn
    have e : IntOp.cmpi .slt v 8192#32 = BitVec.ofBool (decide (v.toInt < 8192)) := rfl
    rw [e, decide_eq_false hn] at h1
    exact absurd h1 (by decide)
  have := BitVec.toInt_eq_toNat_cond v
  have := v.isLt
  omega

section Read
variable (x0 x1 : (⟨3, ![4, 1024, 32]⟩ : Shape).Idx → EReal) (x2 : (⟨2, ![4, 1024]⟩ : Shape).Idx → BitVec 32)
  (x3 : (⟨2, ![8192, 32]⟩ : Shape).Idx → EReal)

/-- The student's rows are real. -/
theorem student_real (h : (Cert.Pre_separated.fn (F := Ideal) x0 x1 x2 x3).1 = fun _ => 1#1) (n : Fin 4096) :
    ∃ s : Fin 32 → ℝ, rowAt x0 n = up s := by
  refine ⟨fun d => (rowAt x0 n d).toReal, funext fun d => real_of_lt ?_⟩
  have h' : FloatOps.cmpf (F := Ideal) (φ := .f32) .olt
      (FloatOps.hostAbsf (F := Ideal) (φ := .f32) (val_main_v37 (F := Ideal) x0 (ix2 n d)))
      (FloatOps.ofBits (F := Ideal) .f32 0x7F800000#32) = 1#1 := congrFun h (ix2 n d)
  rw [student, word_at, show Ideal.ofBits .f32 0x7F800000#32 = ⊤ by simp [Ideal.ofBits, Ideal.ieee]] at h'
  exact lt_of_olt h'

/-- The codebook's rows are real. -/
theorem code_real (h : (Cert.Pre_separated.fn (F := Ideal) x0 x1 x2 x3).2.1 = fun _ => 1#1) (k : Fin 8192) :
    ∃ s : Fin 32 → ℝ, code x3 k = up s := by
  refine ⟨fun d => (code x3 k d).toReal, funext fun d => real_of_lt ?_⟩
  have h' : FloatOps.cmpf (F := Ideal) (φ := .f32) .olt
      (FloatOps.hostAbsf (F := Ideal) (φ := .f32) (code x3 k d))
      (FloatOps.ofBits (F := Ideal) .f32 0x7F800000#32) = 1#1 := congrFun h (ix2 k d)
  rw [word_at, show Ideal.ofBits .f32 0x7F800000#32 = ⊤ by simp [Ideal.ofBits, Ideal.ieee]] at h'
  exact lt_of_olt h'

/-- A token's code, read off the flat array of codes. -/
theorem code_word (n : Fin 4096) : val_main_v55 (F := Ideal) x2 (ix1 n) = codeAt x2 n := by
  have e1 : idx_main_v55 (ix1 n) = ix2 (batch n) (pos n) := eq_ix2 _
  rw [val_main_v55_apply, e1]
  rfl

/-- Every code is the number of a row of the codebook. -/
theorem owns (h2 : (Cert.Pre_separated.fn (F := Ideal) x0 x1 x2 x3).2.2.1 = fun _ => 1#1)
    (h3 : (Cert.Pre_separated.fn (F := Ideal) x0 x1 x2 x3).2.2.2.1 = fun _ => 1#1) :
    ∃ own : Fin 4096 → Fin 8192, ∀ n, codeAt x2 n = BitVec.ofNat 32 (own n).val := by
  have hs : ∀ n, (codeAt x2 n).toNat < 8192 := fun n => by
    have g2 : IntOp.cmpi .sge (val_main_v55 (F := Ideal) x2 (ix1 n)) 0#32 = 1#1 := congrFun h2 (ix1 n)
    have g3 : IntOp.cmpi .slt (val_main_v55 (F := Ideal) x2 (ix1 n)) 8192#32 = 1#1 := congrFun h3 (ix1 n)
    rw [code_word] at g2 g3
    exact small_word g2 g3
  refine ⟨fun n => ⟨(codeAt x2 n).toNat, hs n⟩, fun n => ?_⟩
  simp

/-- The array the precondition sorts: the distances negated, minus infinity at a token's own code. -/
def sorted (x2 : (⟨2, ![4, 1024]⟩ : Shape).Idx → BitVec 32) : (⟨2, ![4096, 8192]⟩ : Shape).Idx → EReal :=
  Cert.Pre_separated.fn_where (F := Ideal)
    (cmpi .eq (iotaInDim Cert.Pre_separated.S4096x8192 32 1)
      (broadcastInDim Cert.Pre_separated.S4096x8192 ![0, 1] Cert.Pre_separated.Facts.bcast_S4096x1_S4096x8192_0_1
        (broadcastInDim Cert.Pre_separated.S4096x1 ![0] Cert.Pre_separated.Facts.bcast_S4096_S4096x1_0
          (val_main_v55 (F := Ideal) x2))))
    (constant Cert.Pre_separated.S_ .f32 0xFF800000#32) (Host.negf (val_main_v51 (F := Ideal) x0 x3))

/-- Its elements, before the words are compared. -/
theorem sorted_apply (n : Fin 4096) (k : Fin 8192) : sorted x0 x3 x2 (ix2 n k)
    = Scalar.select (IntOp.cmpi .eq (BitVec.ofNat 32 k.val) (codeAt x2 n))
        (FloatOps.ofBits (F := Ideal) .f32 0xFF800000#32) (-(val_main_v51 (F := Ideal) x0 x3 (ix2 n k))) := by
  rw [← code_word x2 n]
  have e : broadcastInDim Cert.Pre_separated.S4096x8192 ![0, 1] Cert.Pre_separated.Facts.bcast_S4096x1_S4096x8192_0_1
        (broadcastInDim Cert.Pre_separated.S4096x1 ![0] Cert.Pre_separated.Facts.bcast_S4096_S4096x1_0
          (val_main_v55 (F := Ideal) x2)) (ix2 n k) = val_main_v55 (F := Ideal) x2 (ix1 n) := by
    rw [broadcastInDim_apply _ _ _ (ix2 n k) (ix2 n (0 : Fin 1)) (fun a => by
        match a with
        | ⟨0, _⟩ => rfl
        | ⟨1, _⟩ => rfl),
      broadcastInDim_apply _ _ _ (ix2 n (0 : Fin 1)) (ix1 n) (fun a => by
        match a with
        | ⟨0, _⟩ => rfl)]
  rw [← e]
  rfl

/-- The sixteen comparisons of the precondition: each of the seventeen greatest with the next. -/
theorem compared (n : Fin 4096) (t : Fin 16) : (Cert.Pre_separated.fn (F := Ideal) x0 x1 x2 x3).2.2.2.2 (ix2 n t)
    = FloatOps.cmpf (F := Ideal) (φ := .f32) .olt
        (sorted x0 x3 x2 (ix2 n (sortedFrom (greater fun k => sorted x0 x3 x2 (ix2 n k)) (t.succ.castLE (by omega)))))
        (sorted x0 x3 x2 (ix2 n (sortedFrom (greater fun k => sorted x0 x3 x2 (ix2 n k)) (t.castSucc.castLE (by omega))))) := by
  have hsl : ∀ (o : Fin 2 → Nat) (v : (⟨2, ![4096, 17]⟩ : Shape).Idx → EReal)
      (hs : Cert.Pre_separated.S4096x17.Slices o Cert.Pre_separated.S4096x16) (j : Fin 17), o 0 = 0 → j.val = o 1 + t.val →
      extractStridedSlice Cert.Pre_separated.S4096x16 o v hs (ix2 n t) = v (ix2 n j) := fun o v hs j h0 h1 =>
    extractStridedSlice_apply _ _ hs (ix2 n t) (ix2 n j) (fun a => by
      match a with
      | ⟨0, _⟩ =>
        show n.val = o 0 + n.val
        omega
      | ⟨1, _⟩ => exact h1)
  rw [← top_value (sorted x0 x3 x2) (by omega) Cert.Pre_separated.Facts.sliceFits_S4096x8192_S4096x17 n t.succ,
    ← top_value (sorted x0 x3 x2) (by omega) Cert.Pre_separated.Facts.sliceFits_S4096x8192_S4096x17 n t.castSucc,
    ← hsl ![0, 1] (Host.topK ⟨2, ![4096, 17]⟩ 1 (FloatOps.cmpfTotal (F := Ideal) (φ := .f32) .gt) (sorted x0 x3 x2)
      Cert.Pre_separated.Facts.sliceFits_S4096x8192_S4096x17).1
      Cert.Pre_separated.Facts.slices_S4096x17_S4096x16_0_1 t.succ rfl (by
      show t.val + 1 = 1 + t.val
      omega),
    ← hsl ![0, 0] (Host.topK ⟨2, ![4096, 17]⟩ 1 (FloatOps.cmpfTotal (F := Ideal) (φ := .f32) .gt) (sorted x0 x3 x2)
      Cert.Pre_separated.Facts.sliceFits_S4096x8192_S4096x17).1
      Cert.Pre_separated.Facts.slices_S4096x17_S4096x16_0_0 t.castSucc rfl (by
      show t.val = 0 + t.val
      omega)]
  rfl

variable {x2} {own : Fin 4096 → Fin 8192} (ho : ∀ n, codeAt x2 n = BitVec.ofNat 32 (own n).val)
include ho

/-- What the precondition sorts is the keys negated. -/
theorem sorted_key (n : Fin 4096) (k : Fin 8192) : sorted x0 x3 x2 (ix2 n k) = -(key (rowAt x0 n) (code x3) (own n) k) := by
  rw [sorted_apply, ho n, distance, word_at]
  unfold key
  by_cases hk : k = own n
  · rw [if_pos hk, hk, show IntOp.cmpi .eq (BitVec.ofNat 32 (own n).val) (BitVec.ofNat 32 (own n).val) = 1#1 from by
      show BitVec.ofBool (_ == _) = 1#1
      rw [beq_self_eq_true]
      rfl, select_one]
    simp [Ideal.ofBits, Ideal.ieee]
  · rw [if_neg hk, show IntOp.cmpi .eq (BitVec.ofNat 32 k.val) (BitVec.ofNat 32 (own n).val) = 0#1 from by
      show BitVec.ofBool (_ == _) = 0#1
      have hne : BitVec.ofNat 32 k.val ≠ BitVec.ofNat 32 (own n).val := fun e => hk (Fin.ext (by
        have := congrArg BitVec.toNat e
        rw [BitVec.toNat_ofNat, BitVec.toNat_ofNat] at this
        have := k.isLt
        have := (own n).isLt
        omega))
      rw [beq_eq_false_iff_ne.mpr hne]
      rfl, select_zero]

/-- Seventeen codes list a token's keys from the least on. -/
theorem lists (h : (Cert.Pre_separated.fn (F := Ideal) x0 x1 x2 x3).2.2.2.2 = fun _ => 1#1) (n : Fin 4096) :
    ∃ σ : Fin 17 → Fin 8192, Select.Lists (key (rowAt x0 n) (code x3) (own n)) σ := by
  refine ⟨fun i => sortedFrom (greater fun k => sorted x0 x3 x2 (ix2 n k)) (i.castLE (by omega)), ?_, ?_⟩
  · have hstep : ∀ t : Fin 16, key (rowAt x0 n) (code x3) (own n)
          (sortedFrom (greater fun k => sorted x0 x3 x2 (ix2 n k)) (t.castSucc.castLE (by omega)))
        < key (rowAt x0 n) (code x3) (own n)
          (sortedFrom (greater fun k => sorted x0 x3 x2 (ix2 n k)) (t.succ.castLE (by omega))) := fun t => by
      have g := lt_of_olt ((compared x0 x1 x2 x3 n t).symm.trans (congrFun h (ix2 n t)))
      rw [sorted_key x0 x3 ho, sorted_key x0 x3 ho] at g
      exact EReal.neg_lt_neg_iff.mp g
    intro i j hij
    exact (Fin.strictMono_iff_lt_succ (f := fun i : Fin 17 => key (rowAt x0 n) (code x3) (own n)
      (sortedFrom (greater fun k => sorted x0 x3 x2 (ix2 n k)) (i.castLE (by omega))))).mpr hstep hij
  · intro p hp
    obtain ⟨q, rfl⟩ := sortedFrom_surjective (greater fun k => sorted x0 x3 x2 (ix2 n k)) p
    have hq : 17 ≤ q.val := by
      by_contra hlt
      exact hp ⟨q.val, by omega⟩ rfl
    have g := sortedFrom_noInversion (greater fun k => sorted x0 x3 x2 (ix2 n k))
      (greater fun k => sorted x0 x3 x2 (ix2 n k)) (fun a b h => by
        unfold greater at h ⊢
        exact decide_eq_false (not_lt_of_gt (of_decide_eq_true h))) (fun _ _ h => h) (fun a b c hab hbc => by
        unfold greater at hab hbc ⊢
        have h1 := not_lt.mp (of_decide_eq_false hab)
        have h2 := not_lt.mp (of_decide_eq_false hbc)
        exact decide_eq_false (not_lt.mpr (h1.trans h2))) ((Fin.last 16).castLE (by omega)) q (by
        show 16 < q.val
        omega)
    have g' : sorted x0 x3 x2 (ix2 n (sortedFrom (greater fun k => sorted x0 x3 x2 (ix2 n k)) q))
        ≤ sorted x0 x3 x2 (ix2 n (sortedFrom (greater fun k => sorted x0 x3 x2 (ix2 n k)) ((Fin.last 16).castLE (by omega)))) :=
      not_lt.mp (of_decide_eq_false (show decide _ = false from g))
    rw [sorted_key x0 x3 ho, sorted_key x0 x3 ho] at g'
    exact EReal.neg_le_neg_iff.mp g'

end Read

end Cert.Pre

end
-- ==== Proof.Equation.lean ====
/-
  The kernel's value is the reference's.

  The codes the reference's sort puts first are the ones the kernel's minima pick, since both order a token's codes by
  their distance and the precondition keeps the distances that matter apart. So each token's loss agrees. The kernel adds
  the tokens block by block and multiplies the total by the reciprocal of their number where the reference divides each
  mean; a factor that is a real number and not negative distributes over every sum of extended reals.
-/
module

public import proofs.«01_k».proof.Proof.RefToken
public import proofs.«01_k».proof.Proof.Pre

@[expose] public section

noncomputable section

namespace Cert.Equation

open Idealize.ShloMosaic Idealize.ShloMosaic.ValueIdx
open Cert.Tokens Cert.Token Cert.RefOps Cert.ReferenceIdeal.Read Cert.ReferenceIdeal.Global Cert.ReferenceIdeal.Contrast

/-! ## The order -/

/-- Of two reals that are not negative the greater has the greater root. -/
theorem root_lt {q r : ℝ} (hq : 0 ≤ q) (hr : 0 ≤ r) (h : (q : EReal) < (r : EReal)) :
    Ideal.sqrt (max (q : EReal) 0) < Ideal.sqrt (max (r : EReal) 0) := by
  have h' : q < r := EReal.coe_lt_coe_iff.mp h
  rw [max_eq_left (by exact_mod_cast hq), max_eq_left (by exact_mod_cast hr), sqrt_up hq, sqrt_up hr]
  exact EReal.coe_lt_coe_iff.mpr (Real.sqrt_lt_sqrt hq h')

/-- A distance of real rows is a real that is not negative. -/
theorem sqd_real (s c : Fin 32 → ℝ) : ∃ q : ℝ, 0 ≤ q ∧ sqd (up s) (up c) = (q : EReal) :=
  ⟨_, Finset.sum_nonneg fun _ _ => mul_self_nonneg _, sqd_up s c⟩

/-- The code with the lesser key has the greater score. -/
theorem score_lt {n : ℕ} (s : Fin 32 → ℝ) (c : Fin n → Fin 32 → ℝ) (own a b : Fin n)
    (h : key (up s) (fun k => up (c k)) own a < key (up s) (fun k => up (c k)) own b) :
    -(Ideal.sqrt (max (sqd (up s) (up (c b))) 0) + if b = own then (⊤ : EReal) else 0)
      < -(Ideal.sqrt (max (sqd (up s) (up (c a))) 0) + if a = own then (⊤ : EReal) else 0) := by
  have ha : a ≠ own := fun e => by
    rw [key, if_pos e] at h
    exact absurd h not_top_lt
  obtain ⟨q, hq, eq⟩ := sqd_real s (c a)
  obtain ⟨r, hr, er⟩ := sqd_real s (c b)
  rw [EReal.neg_lt_neg_iff, if_neg ha, add_zero, eq, er]
  by_cases hb : b = own
  · rw [if_pos hb, max_eq_left (by exact_mod_cast hq), max_eq_left (by exact_mod_cast hr), sqrt_up hq, sqrt_up hr,
      EReal.coe_add_top]
    exact EReal.coe_lt_top _
  · rw [if_neg hb, add_zero]
    rw [key, if_neg ha, key, if_neg hb, eq, er] at h
    exact root_lt hq hr h

section Order
variable (x0 : (⟨3, ![4, 1024, 32]⟩ : Shape).Idx → EReal) (x2 : (⟨2, ![4, 1024]⟩ : Shape).Idx → BitVec 32)
  (x3 : (⟨2, ![8192, 32]⟩ : Shape).Idx → EReal) {own : Fin 4096 → Fin 8192}
  (ho : ∀ n, codeAt x2 n = BitVec.ofNat 32 (own n).val) (n : Fin 4096)
include ho

/-- The sixteen codes the reference's sort puts first are the ones that list the keys. -/
theorem neighbours (s : Fin 32 → ℝ) (c : Fin 8192 → Fin 32 → ℝ) (hs : rowAt x0 n = up s) (hc : ∀ k, code x3 k = up (c k))
    (σ : Fin 17 → Fin 8192) (h : Select.Lists (key (up s) (fun k => up (c k)) (own n)) σ) (t : Fin 16) :
    neighbour x0 x3 n x2 t = σ (t.castLE (by omega)) := by
  refine Select.sortedFrom_prefix (fun a b h => ?_) (fun a b c hab hbc => ?_) (by omega) (fun t : Fin 16 => σ (t.castLE (by omega)))
    (fun i j e => ?_) (fun i p hp => ?_) t
  · unfold greater at h ⊢
    exact decide_eq_false (not_lt_of_gt (of_decide_eq_true h))
  · unfold greater at hab hbc ⊢
    have h1 := not_lt.mp (of_decide_eq_false hab)
    have h2 := not_lt.mp (of_decide_eq_false hbc)
    exact decide_eq_false (not_lt.mpr (h1.trans h2))
  · have := congrArg Fin.val (h.injective e)
    exact Fin.ext this
  · have hlt := h.lt_of_ne (i.castLE (by omega)) (by
      show i.val < 16
      exact i.isLt) p (fun j hj => by
      have hj' : j.val ≤ i.val := hj
      exact hp ⟨j.val, by omega⟩ hj')
    refine decide_eq_true ?_
    show val_main_v74 (F := Ideal) x0 x2 x3 (ix2 n p) < val_main_v74 (F := Ideal) x0 x2 x3 (ix2 n _)
    rw [score x0 x3 n ho, score x0 x3 n ho, hs, hc, hc]
    exact score_lt s c (own n) _ p hlt

/-- A token's loss as the kernel forms it is the reference's. -/
theorem loss_eq (x1 : (⟨3, ![4, 1024, 32]⟩ : Shape).Idx → EReal)
    (h0 : (Cert.Pre_separated.fn (F := Ideal) x0 x1 x2 x3).1 = fun _ => 1#1)
    (h1 : (Cert.Pre_separated.fn (F := Ideal) x0 x1 x2 x3).2.1 = fun _ => 1#1)
    (h4 : (Cert.Pre_separated.fn (F := Ideal) x0 x1 x2 x3).2.2.2.2 = fun _ => 1#1) :
    lossK (rowAt x0 n) (code x3) (own n)
      = lossR (rowAt x0 n) (code x3 (own n)) (fun t => code x3 (neighbour x0 x3 n x2 t)) := by
  obtain ⟨s, hs⟩ := Pre.student_real x0 x1 x2 x3 h0 n
  choose c hc using Pre.code_real x0 x1 x2 x3 h1
  obtain ⟨σ, hσ⟩ := Pre.lists x0 x1 x3 ho h4 n
  have hcode : code x3 = fun k => up (c k) := funext hc
  rw [hs, hcode] at hσ
  have hn : (fun t : Fin 16 => code x3 (neighbour x0 x3 n x2 t)) = fun t => up (c (σ (t.castLE (by omega)))) := funext fun t => by
    rw [neighbours x0 x2 x3 ho n s c hs hc σ hσ t, hc]
  rw [hn, hs, hcode]
  exact lossK_eq_lossR s c (own n) σ hσ

end Order

/-! ## Sums and factors -/

/-- A real factor that is not negative distributes over a sum. -/
theorem sum_mul {ι : Type} (s : Finset ι) (f : ι → EReal) {c : ℝ} (hc : 0 ≤ c) :
    (∑ i ∈ s, f i) * (c : EReal) = ∑ i ∈ s, f i * (c : EReal) := by
  classical
  induction s using Finset.induction_on with
  | empty => rw [Finset.sum_empty, Finset.sum_empty, zero_mul]
  | insert a s ha ih =>
    rw [Finset.sum_insert ha, Finset.sum_insert ha, ← ih]
    exact EReal.right_distrib_of_nonneg_of_ne_top (by exact_mod_cast hc) (EReal.coe_ne_top c) _ _

/-- The sum over the blocks of the sums over their rows is the sum over the tokens. -/
theorem sum_blocks {M : Type} [AddCommMonoid M] (f : Fin 4096 → M) : ∑ g, ∑ p, f (tok g p) = ∑ n, f n := by
  rw [← Fintype.sum_prod_type']
  refine Finset.sum_bij' (fun q _ => tok q.1 q.2)
    (fun n _ => ((⟨n.val / 128, by omega⟩ : Fin 32), (⟨n.val % 128, by omega⟩ : Fin 128)))
    (fun _ _ => Finset.mem_univ _) (fun _ _ => Finset.mem_univ _) ?_ ?_ ?_
  · rintro ⟨g, p⟩ -
    refine Prod.ext (Fin.ext ?_) (Fin.ext ?_)
    · show (128 * g.val + p.val) / 128 = g.val
      omega
    · show (128 * g.val + p.val) % 128 = p.val
      omega
  · intro n _
    refine Fin.ext ?_
    show 128 * (n.val / 128) + n.val % 128 = n.val
    omega
  · rintro ⟨g, p⟩ -
    rfl

/-- The constants: the number of features, its reciprocal, the reciprocal of the number of tokens. -/
theorem features_eq : Ideal.ofBits .f32 0x42000000#32 = ((32 : ℝ) : EReal) := by
  simp [Ideal.ofBits, Ideal.ieee, -EReal.coe_mul]; norm_num

/-- The reciprocal of the number of features. -/
theorem per_feature_eq : Ideal.ofBits .f32 0x3D000000#32 = ((1 / 32 : ℝ) : EReal) := by
  simp [Ideal.ofBits, Ideal.ieee, -EReal.coe_mul]; norm_num

/-- The reciprocal of the number of tokens. -/
theorem per_token_eq : Ideal.ofBits .f32 0x39800000#32 = ((1 / 4096 : ℝ) : EReal) := by
  simp [Ideal.ofBits, Ideal.ieee, -EReal.coe_mul]; norm_num

/-- As many ones as there are indices. -/
theorem sum_ones (n : ℕ) : ∑ _i : Fin n, (1 : EReal) = ((n : ℝ) : EReal) := by
  have e : ∑ _i : Fin n, (1 : EReal) = ∑ _i : Fin n, ((1 : ℝ) : EReal) := rfl
  rw [e, coe_sum, Finset.sum_const, Finset.card_univ, Fintype.card_fin, nsmul_eq_mul, mul_one]

/-- The weights add up to the number of tokens. -/
theorem count_eq : count = ((4096 : ℝ) : EReal) := by
  refine (sum_ones 4096).trans ?_
  norm_num

/-- Sums block by block, weighted and multiplied by the reciprocal of the number of tokens, are the weighted sum of the
    means. -/
theorem means (f t l : Fin 4096 → EReal) :
    (((∑ g, (∑ p, f (tok g p)) * Ideal.ofBits .f32 0x3D000000#32) + ∑ g, ∑ p, t (tok g p))
        + half * ∑ g, ∑ p, l (tok g p)) * Ideal.ofBits .f32 0x39800000#32
      = (1 * Ideal.div (∑ n, Ideal.div (f n) (Ideal.ofBits .f32 0x42000000#32) * 1) count
          + 1 * Ideal.div (∑ n, t n * 1) count)
        + half * Ideal.div (∑ n, l n * 1) count := by
  have hp : (0 : ℝ) ≤ 1 / 4096 := by norm_num
  have hd (y z : EReal) : (y + z) * ((1 / 4096 : ℝ) : EReal) = y * ((1 / 4096 : ℝ) : EReal) + z * ((1 / 4096 : ℝ) : EReal) :=
    EReal.right_distrib_of_nonneg_of_ne_top (by exact_mod_cast hp) (EReal.coe_ne_top _) _ _
  have hf : ∑ g, (∑ p, f (tok g p)) * ((1 / 32 : ℝ) : EReal) = ∑ n, f n * ((1 / 32 : ℝ) : EReal) := by
    rw [← sum_blocks fun n => f n * ((1 / 32 : ℝ) : EReal)]
    exact Finset.sum_congr rfl fun g _ => sum_mul _ _ (by norm_num)
  rw [features_eq, per_feature_eq, per_token_eq, count_eq, sum_blocks t, sum_blocks l, hf, hd, hd,
    Ideal.div_coe (by norm_num), Ideal.div_coe (by norm_num), Ideal.div_coe (by norm_num)]
  simp only [mul_one, one_mul, Ideal.div_coe (show (32 : ℝ) ≠ 0 by norm_num), mul_assoc]

end Cert.Equation

end
-- ==== Proof.KernelCases.lean ====
/-
  What one grid point leaves in the scratch buffers.

  The grid goes over thirty-two blocks of 128 tokens, eighteen points for each block. The first point of a block works
  out the feature and triplet sums, the keys of all codes and the positive's exponential; the next sixteen points each
  add one negative and move on to the next key; the last point adds the block's contrastive losses, and the last point
  of the whole grid also writes the result. The theorems here read those contents as the body's own expressions in the
  blocks read and in what the point before left.
-/
module

public import proofs.«01_k».proof.Proof.Gen.KernelIdeal.Value
public import Idealize.ShloMosaic.Lib.WritesUnit
public import Idealize.ShloMosaic.Lib.Pipeline.ValueKit.Tiles
public import Idealize.ShloMosaic.Lib.ValueIdxCore

@[expose] public section

set_option maxRecDepth 4096

noncomputable section

namespace Cert.KernelIdeal.Cases

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- What the output's buffer and the eight scratch buffers hold. -/
abbrev St (F : FTy → Type) : Type := Vec F S1x1 .f32 × Vec F S3 .f32 × Vec F S128x8192 .f32 × Vec F S1x8192 .f32 × Vec F S128x1 .f32 × Vec F S128x1 .f32
  × Vec F S128x1 .f32 × Vec F S128x1 .f32 × Vec F S128x1 .f32

/-- A matrix is stored from its corner. -/
theorem hz : (![0, 0] : Fin 2 → Nat) = fun _ => 0 := funext fun a => by fin_cases a <;> rfl

/-- The origin of an array of rank three. -/
theorem hz3 : (![0, 0, 0] : Fin 3 → Nat) = fun _ => 0 := funext fun a => by fin_cases a <;> rfl

/-- What the first point of a block leaves in the seven buffers it fills, from the student's block, the codes' block and
    the codebook: the keys, the codes' squared norms, the tokens' squared norms and reciprocal norms, the least keys,
    zeros, and the positives' exponentials. -/
def start (s : Vec F S128x32 .f32) (k : Vec F S1x1x128 .i32) (cb : Vec F S8192x32 .f32) :
    Vec F S128x8192 .f32 × Vec F S1x8192 .f32 × Vec F S128x1 .f32 × Vec F S128x1 .f32 × Vec F S128x1 .f32 × Vec F S128x1 .f32 × Vec F S128x1 .f32 :=
  (k0_pay20 (FloatOps.ofBits .f32 0x7F800000#32) (k0_pay10 s) (k0_pay11 k) cb, k0_pay2 (k0_pay17 cb), k0_pay3 (k0_pay16 (k0_pay10 s)),
    k0_pay4 (k0_pay21 (k0_pay10 s)), k0_pay6 (k0_pay19 (FloatOps.ofBits .f32 0x7F800000#32) (k0_pay10 s) (k0_pay11 k) cb), k0_pay5,
    k0_pay1 (k0_pay22 (k0_pay10 s) (k0_pay11 k) cb) (FloatOps.ofBits .f32 0x41200000#32))

/-- One word of a three-word buffer, read through a rectangle of one word. -/
theorem ld_word (x : Vec F S3 .f32) (o : Fin 3) (off : Fin 1 → Nat) (ho : off = ![o.val]) (inb) (y) :
    View.ld (S := S3) (e' := .f32) x (Rect.unit (s := S3) off S1.size inb) y = x (ValueIdx.ix1 o) := by
  subst ho
  refine View.ld_unit_apply_of (S := S3) (e := .f32) x _ _ inb y _ fun a => ?_
  have hy : (y a).val = 0 := by
    have := (y a).isLt
    match a with
    | ⟨0, _⟩ => exact Nat.lt_one_iff.mp this
  rw [hy]
  match a with
  | ⟨0, _⟩ => rfl

/-- Contents laid into a whole scratch buffer read back as they are. -/
theorem read_sc0 {h : scM0_0.IsWhole} (x : Vec F S3 .f32) : View.read (Elt F) (View.whole cc0_scratch0) (h.unread x) = x := h.read_unread x
/-- A scratch buffer that holds `x` reads as `x` (buffer 1). -/
theorem read_sc1 {h : scM0_1.IsWhole} (x : Vec F S128x8192 .f32) : View.read (Elt F) (View.whole cc0_scratch1) (h.unread x) = x := h.read_unread x
/-- A scratch buffer that holds `x` reads as `x` (buffer 2). -/
theorem read_sc2 {h : scM0_2.IsWhole} (x : Vec F S1x8192 .f32) : View.read (Elt F) (View.whole cc0_scratch2) (h.unread x) = x := h.read_unread x
/-- A scratch buffer that holds `x` reads as `x` (buffer 3). -/
theorem read_sc3 {h : scM0_3.IsWhole} (x : Vec F S128x1 .f32) : View.read (Elt F) (View.whole cc0_scratch3) (h.unread x) = x := h.read_unread x
/-- A scratch buffer that holds `x` reads as `x` (buffer 4). -/
theorem read_sc4 {h : scM0_4.IsWhole} (x : Vec F S128x1 .f32) : View.read (Elt F) (View.whole cc0_scratch4) (h.unread x) = x := h.read_unread x
/-- A scratch buffer that holds `x` reads as `x` (buffer 5). -/
theorem read_sc5 {h : scM0_5.IsWhole} (x : Vec F S128x1 .f32) : View.read (Elt F) (View.whole cc0_scratch5) (h.unread x) = x := h.read_unread x
/-- A scratch buffer that holds `x` reads as `x` (buffer 6). -/
theorem read_sc6 {h : scM0_6.IsWhole} (x : Vec F S128x1 .f32) : View.read (Elt F) (View.whole cc0_scratch6) (h.unread x) = x := h.read_unread x
/-- A scratch buffer that holds `x` reads as `x` (buffer 7). -/
theorem read_sc7 {h : scM0_7.IsWhole} (x : Vec F S128x1 .f32) : View.read (Elt F) (View.whole cc0_scratch7) (h.unread x) = x := h.read_unread x

/-- A round: the next negative is added and the least key moves up. -/
theorem step_B (c : Dev nD) (t : Fin cfg0.N) (acc : St F) (h1 : ¬t.val % 18 = 0) (h2 : 1 ≤ t.val % 18 ∧ t.val % 18 ≤ 16) :
    (stAt0 m c t.val t.isLt acc).2 = (acc.2.1, acc.2.2.1, acc.2.2.2.1, acc.2.2.2.2.1, acc.2.2.2.2.2.1,
      k0_pay7 (k0_pay24 (FloatOps.ofBits .f32 0x7F800000#32) acc.2.2.1 acc.2.2.2.2.2.2.1),
      k0_pay23 acc.2.2.1 acc.2.2.2.2.2.2.1 acc.2.2.2.1 acc.2.2.2.2.1 acc.2.2.2.2.2.1 acc.2.2.2.2.2.2.2.1, acc.2.2.2.2.2.2.2.2) := by
  rw [stAt0_B m c t acc (by omega) h1 h2 (by omega)]
  refine Prod.ext rfl (Prod.ext rfl (Prod.ext rfl (Prod.ext rfl (Prod.ext rfl (Prod.ext ?_ (Prod.ext ?_ rfl))))))
  · dsimp only
    unfold sout0_B_5
    rw [View.read_writes_eq_canon _ _ _ (fun y => scover0_B_5 (y := y) ..)]
    unfold kernelRun0_B
    dsimp only
    sl_unfold_words
    rw [View.canon_unit_zero hz]
    simp only [View.readAt_eq_ld, Memref.IsWhole.read_unread, read_sc0, read_sc1, read_sc2, read_sc3, read_sc4, read_sc5, read_sc6, read_sc7, View.ld_unit_zero (S := S128x32) hz, View.ld_unit_zero (S := S8192x32) hz, View.ld_unit_zero (S := S128x1) hz,
      View.ld_unit_zero (S := S1x8192) hz, View.ld_unit_zero (S := S128x8192) hz, View.ld_unit_zero (S := S1x1) hz, View.ld_unit_zero (S := S1x1x128) hz3]
  · dsimp only
    unfold sout0_B_6
    rw [View.read_writes_eq_canon _ _ _ (fun y => scover0_B_6 (y := y) ..)]
    unfold kernelRun0_B
    dsimp only
    sl_unfold_words
    rw [View.canon_unit_zero hz]
    simp only [View.readAt_eq_ld, Memref.IsWhole.read_unread, read_sc0, read_sc1, read_sc2, read_sc3, read_sc4, read_sc5, read_sc6, read_sc7, View.ld_unit_zero (S := S128x32) hz, View.ld_unit_zero (S := S8192x32) hz, View.ld_unit_zero (S := S128x1) hz,
      View.ld_unit_zero (S := S1x8192) hz, View.ld_unit_zero (S := S128x8192) hz, View.ld_unit_zero (S := S1x1) hz, View.ld_unit_zero (S := S1x1x128) hz3]

/-- The first point of a later block fills the seven buffers anew. -/
theorem step_D (c : Dev nD) (t : Fin cfg0.N) (acc : St F) (h0 : ¬t.val % 576 = 0) (h1 : t.val % 18 = 0) :
    (stAt0 m c t.val t.isLt acc).2.2 = start (iblk m c 0 t) (iblk m c 3 t) (iblk m c 4 t) := by
  rw [stAt0_D m c t acc h0 h1 (by omega) (by omega)]
  refine Prod.ext ?_ (Prod.ext ?_ (Prod.ext ?_ (Prod.ext ?_ (Prod.ext ?_ (Prod.ext ?_ ?_)))))
  · dsimp only
    unfold sout0_D_1
    rw [View.read_writes_eq_canon _ _ _ (fun y => scover0_D_1 (y := y) ..)]
    unfold kernelRun0_D
    dsimp only
    sl_unfold_words
    rw [View.canon_unit_zero hz]
    simp only [View.readAt_eq_ld, Memref.IsWhole.read_unread, read_sc0, read_sc1, read_sc2, read_sc3, read_sc4, read_sc5, read_sc6, read_sc7, View.ld_unit_zero (S := S128x32) hz, View.ld_unit_zero (S := S8192x32) hz, View.ld_unit_zero (S := S128x1) hz,
      View.ld_unit_zero (S := S1x8192) hz, View.ld_unit_zero (S := S128x8192) hz, View.ld_unit_zero (S := S1x1) hz, View.ld_unit_zero (S := S1x1x128) hz3]
    rfl
  · dsimp only
    unfold sout0_D_2
    rw [View.read_writes_eq_canon _ _ _ (fun y => scover0_D_2 (y := y) ..)]
    unfold kernelRun0_D
    dsimp only
    sl_unfold_words
    rw [View.canon_unit_zero hz]
    simp only [View.readAt_eq_ld, Memref.IsWhole.read_unread, read_sc0, read_sc1, read_sc2, read_sc3, read_sc4, read_sc5, read_sc6, read_sc7, View.ld_unit_zero (S := S128x32) hz, View.ld_unit_zero (S := S8192x32) hz, View.ld_unit_zero (S := S128x1) hz,
      View.ld_unit_zero (S := S1x8192) hz, View.ld_unit_zero (S := S128x8192) hz, View.ld_unit_zero (S := S1x1) hz, View.ld_unit_zero (S := S1x1x128) hz3]
    rfl
  · dsimp only
    unfold sout0_D_3
    rw [View.read_writes_eq_canon _ _ _ (fun y => scover0_D_3 (y := y) ..)]
    unfold kernelRun0_D
    dsimp only
    sl_unfold_words
    rw [View.canon_unit_zero hz]
    simp only [View.readAt_eq_ld, Memref.IsWhole.read_unread, read_sc0, read_sc1, read_sc2, read_sc3, read_sc4, read_sc5, read_sc6, read_sc7, View.ld_unit_zero (S := S128x32) hz, View.ld_unit_zero (S := S8192x32) hz, View.ld_unit_zero (S := S128x1) hz,
      View.ld_unit_zero (S := S1x8192) hz, View.ld_unit_zero (S := S128x8192) hz, View.ld_unit_zero (S := S1x1) hz, View.ld_unit_zero (S := S1x1x128) hz3]
    rfl
  · dsimp only
    unfold sout0_D_4
    rw [View.read_writes_eq_canon _ _ _ (fun y => scover0_D_4 (y := y) ..)]
    unfold kernelRun0_D
    dsimp only
    sl_unfold_words
    rw [View.canon_unit_zero hz]
    simp only [View.readAt_eq_ld, Memref.IsWhole.read_unread, read_sc0, read_sc1, read_sc2, read_sc3, read_sc4, read_sc5, read_sc6, read_sc7, View.ld_unit_zero (S := S128x32) hz, View.ld_unit_zero (S := S8192x32) hz, View.ld_unit_zero (S := S128x1) hz,
      View.ld_unit_zero (S := S1x8192) hz, View.ld_unit_zero (S := S128x8192) hz, View.ld_unit_zero (S := S1x1) hz, View.ld_unit_zero (S := S1x1x128) hz3]
    rfl
  · dsimp only
    unfold sout0_D_5
    rw [View.read_writes_eq_canon _ _ _ (fun y => scover0_D_5 (y := y) ..)]
    unfold kernelRun0_D
    dsimp only
    sl_unfold_words
    rw [View.canon_unit_zero hz]
    simp only [View.readAt_eq_ld, Memref.IsWhole.read_unread, read_sc0, read_sc1, read_sc2, read_sc3, read_sc4, read_sc5, read_sc6, read_sc7, View.ld_unit_zero (S := S128x32) hz, View.ld_unit_zero (S := S8192x32) hz, View.ld_unit_zero (S := S128x1) hz,
      View.ld_unit_zero (S := S1x8192) hz, View.ld_unit_zero (S := S128x8192) hz, View.ld_unit_zero (S := S1x1) hz, View.ld_unit_zero (S := S1x1x128) hz3]
    simp only [start]
  · dsimp only
    unfold sout0_D_6
    rw [View.read_writes_eq_canon _ _ _ (fun y => scover0_D_6 (y := y) ..)]
    unfold kernelRun0_D
    dsimp only
    sl_unfold_words
    rw [View.canon_unit_zero hz]
    rfl
  · dsimp only
    unfold sout0_D_7
    rw [View.read_writes_eq_canon _ _ _ (fun y => scover0_D_7 (y := y) ..)]
    unfold kernelRun0_D
    dsimp only
    sl_unfold_words
    rw [View.canon_unit_zero hz]
    simp only [View.readAt_eq_ld, Memref.IsWhole.read_unread, read_sc0, read_sc1, read_sc2, read_sc3, read_sc4, read_sc5, read_sc6, read_sc7, View.ld_unit_zero (S := S128x32) hz, View.ld_unit_zero (S := S8192x32) hz, View.ld_unit_zero (S := S128x1) hz,
      View.ld_unit_zero (S := S1x8192) hz, View.ld_unit_zero (S := S128x8192) hz, View.ld_unit_zero (S := S1x1) hz, View.ld_unit_zero (S := S1x1x128) hz3]
    rfl

/-- The first point of the grid fills the seven buffers. -/
theorem step_A (c : Dev nD) (t : Fin cfg0.N) (acc : St F) (h0 : t.val % 576 = 0) (h1 : t.val % 18 = 0) :
    (stAt0 m c t.val t.isLt acc).2.2 = start (iblk m c 0 t) (iblk m c 3 t) (iblk m c 4 t) := by
  rw [stAt0_A m c t acc h0 h1 (by omega) (by omega)]
  refine Prod.ext ?_ (Prod.ext ?_ (Prod.ext ?_ (Prod.ext ?_ (Prod.ext ?_ (Prod.ext ?_ ?_)))))
  · dsimp only
    unfold sout0_A_1
    rw [View.read_writes_eq_canon _ _ _ (fun y => scover0_A_1 (y := y) ..)]
    unfold kernelRun0_A
    dsimp only
    sl_unfold_words
    rw [View.canon_unit_zero hz]
    simp only [View.readAt_eq_ld, Memref.IsWhole.read_unread, read_sc0, read_sc1, read_sc2, read_sc3, read_sc4, read_sc5, read_sc6, read_sc7, View.ld_unit_zero (S := S128x32) hz, View.ld_unit_zero (S := S8192x32) hz, View.ld_unit_zero (S := S128x1) hz,
      View.ld_unit_zero (S := S1x8192) hz, View.ld_unit_zero (S := S128x8192) hz, View.ld_unit_zero (S := S1x1) hz, View.ld_unit_zero (S := S1x1x128) hz3]
    rfl
  · dsimp only
    unfold sout0_A_2
    rw [View.read_writes_eq_canon _ _ _ (fun y => scover0_A_2 (y := y) ..)]
    unfold kernelRun0_A
    dsimp only
    sl_unfold_words
    rw [View.canon_unit_zero hz]
    simp only [View.readAt_eq_ld, Memref.IsWhole.read_unread, read_sc0, read_sc1, read_sc2, read_sc3, read_sc4, read_sc5, read_sc6, read_sc7, View.ld_unit_zero (S := S128x32) hz, View.ld_unit_zero (S := S8192x32) hz, View.ld_unit_zero (S := S128x1) hz,
      View.ld_unit_zero (S := S1x8192) hz, View.ld_unit_zero (S := S128x8192) hz, View.ld_unit_zero (S := S1x1) hz, View.ld_unit_zero (S := S1x1x128) hz3]
    rfl
  · dsimp only
    unfold sout0_A_3
    rw [View.read_writes_eq_canon _ _ _ (fun y => scover0_A_3 (y := y) ..)]
    unfold kernelRun0_A
    dsimp only
    sl_unfold_words
    rw [View.canon_unit_zero hz]
    simp only [View.readAt_eq_ld, Memref.IsWhole.read_unread, read_sc0, read_sc1, read_sc2, read_sc3, read_sc4, read_sc5, read_sc6, read_sc7, View.ld_unit_zero (S := S128x32) hz, View.ld_unit_zero (S := S8192x32) hz, View.ld_unit_zero (S := S128x1) hz,
      View.ld_unit_zero (S := S1x8192) hz, View.ld_unit_zero (S := S128x8192) hz, View.ld_unit_zero (S := S1x1) hz, View.ld_unit_zero (S := S1x1x128) hz3]
    rfl
  · dsimp only
    unfold sout0_A_4
    rw [View.read_writes_eq_canon _ _ _ (fun y => scover0_A_4 (y := y) ..)]
    unfold kernelRun0_A
    dsimp only
    sl_unfold_words
    rw [View.canon_unit_zero hz]
    simp only [View.readAt_eq_ld, Memref.IsWhole.read_unread, read_sc0, read_sc1, read_sc2, read_sc3, read_sc4, read_sc5, read_sc6, read_sc7, View.ld_unit_zero (S := S128x32) hz, View.ld_unit_zero (S := S8192x32) hz, View.ld_unit_zero (S := S128x1) hz,
      View.ld_unit_zero (S := S1x8192) hz, View.ld_unit_zero (S := S128x8192) hz, View.ld_unit_zero (S := S1x1) hz, View.ld_unit_zero (S := S1x1x128) hz3]
    rfl
  · dsimp only
    unfold sout0_A_5
    rw [View.read_writes_eq_canon _ _ _ (fun y => scover0_A_5 (y := y) ..)]
    unfold kernelRun0_A
    dsimp only
    sl_unfold_words
    rw [View.canon_unit_zero hz]
    simp only [View.readAt_eq_ld, Memref.IsWhole.read_unread, read_sc0, read_sc1, read_sc2, read_sc3, read_sc4, read_sc5, read_sc6, read_sc7, View.ld_unit_zero (S := S128x32) hz, View.ld_unit_zero (S := S8192x32) hz, View.ld_unit_zero (S := S128x1) hz,
      View.ld_unit_zero (S := S1x8192) hz, View.ld_unit_zero (S := S128x8192) hz, View.ld_unit_zero (S := S1x1) hz, View.ld_unit_zero (S := S1x1x128) hz3]
    simp only [start]
  · dsimp only
    unfold sout0_A_6
    rw [View.read_writes_eq_canon _ _ _ (fun y => scover0_A_6 (y := y) ..)]
    unfold kernelRun0_A
    dsimp only
    sl_unfold_words
    rw [View.canon_unit_zero hz]
    rfl
  · dsimp only
    unfold sout0_A_7
    rw [View.read_writes_eq_canon _ _ _ (fun y => scover0_A_7 (y := y) ..)]
    unfold kernelRun0_A
    dsimp only
    sl_unfold_words
    rw [View.canon_unit_zero hz]
    simp only [View.readAt_eq_ld, Memref.IsWhole.read_unread, read_sc0, read_sc1, read_sc2, read_sc3, read_sc4, read_sc5, read_sc6, read_sc7, View.ld_unit_zero (S := S128x32) hz, View.ld_unit_zero (S := S8192x32) hz, View.ld_unit_zero (S := S128x1) hz,
      View.ld_unit_zero (S := S1x8192) hz, View.ld_unit_zero (S := S128x8192) hz, View.ld_unit_zero (S := S1x1) hz, View.ld_unit_zero (S := S1x1x128) hz3]
    rfl

/-- The first point of a later block adds its feature and triplet sums to the first two words. -/
theorem words_D (c : Dev nD) (t : Fin cfg0.N) (acc : St F) (h0 : ¬t.val % 576 = 0) (h1 : t.val % 18 = 0) :
    (stAt0 m c t.val t.isLt acc).2.1 (ValueIdx.ix1 0) = k0_pay13 (iblk m c 0 t) (iblk m c 1 t) (acc.2.1 (ValueIdx.ix1 0))
    ∧ (stAt0 m c t.val t.isLt acc).2.1 (ValueIdx.ix1 1) = k0_pay14 (iblk m c 0 t) (iblk m c 1 t) (iblk m c 2 t) (acc.2.1 (ValueIdx.ix1 1))
    ∧ (stAt0 m c t.val t.isLt acc).2.1 (ValueIdx.ix1 2) = acc.2.1 (ValueIdx.ix1 2) := by
  rw [stAt0_D m c t acc h0 h1 (by omega) (by omega)]
  dsimp only
  unfold sout0_D_0
  unfold kernelRun0_D
  dsimp only
  sl_unfold_words
  refine ⟨?_, ?_, ?_⟩
  · refine (View.read_writes_cons_unit_of_not_mem (s := S3) (e := .f32) _ _ _ _ _ _ rfl 0 (by decide)).trans ?_
    refine (View.read_writes_cons_unit_of_mem (s := S3) (e := .f32) _ _ _ _ _ _ (by exact ValueIdx.ix1 (0 : Fin 1)) rfl (by intro a; match a with | ⟨0, _⟩ => rfl)).trans ?_
    simp only [View.readAt_eq_ld, Memref.IsWhole.read_unread, read_sc0, read_sc1, read_sc2, read_sc3, read_sc4, read_sc5, read_sc6, read_sc7, View.ld_unit_zero (S := S128x32) hz, View.ld_unit_zero (S := S8192x32) hz, View.ld_unit_zero (S := S128x1) hz,
      View.ld_unit_zero (S := S1x8192) hz, View.ld_unit_zero (S := S128x8192) hz, View.ld_unit_zero (S := S1x1) hz, View.ld_unit_zero (S := S1x1x128) hz3]
    try rw [ld_word _ 0 ![0] rfl]
    try rw [ld_word _ 1 ![1] rfl]
    try rw [ld_word _ 2 ![2] rfl]
    try rfl
  · refine (View.read_writes_cons_unit_of_mem (s := S3) (e := .f32) _ _ _ _ _ _ (by exact ValueIdx.ix1 (0 : Fin 1)) rfl (by intro a; match a with | ⟨0, _⟩ => rfl)).trans ?_
    simp only [View.readAt_eq_ld, Memref.IsWhole.read_unread, read_sc0, read_sc1, read_sc2, read_sc3, read_sc4, read_sc5, read_sc6, read_sc7, View.ld_unit_zero (S := S128x32) hz, View.ld_unit_zero (S := S8192x32) hz, View.ld_unit_zero (S := S128x1) hz,
      View.ld_unit_zero (S := S1x8192) hz, View.ld_unit_zero (S := S128x8192) hz, View.ld_unit_zero (S := S1x1) hz, View.ld_unit_zero (S := S1x1x128) hz3]
    try rw [ld_word _ 0 ![0] rfl]
    try rw [ld_word _ 1 ![1] rfl]
    try rw [ld_word _ 2 ![2] rfl]
    try rfl
  · refine (View.read_writes_cons_unit_of_not_mem (s := S3) (e := .f32) _ _ _ _ _ _ rfl 0 (by decide)).trans ?_
    refine (View.read_writes_cons_unit_of_not_mem (s := S3) (e := .f32) _ _ _ _ _ _ rfl 0 (by decide)).trans ?_
    exact congrFun (Memref.IsWhole.read_unread _ _) _

/-- The first point of the grid starts the three words from zero. -/
theorem words_A (c : Dev nD) (t : Fin cfg0.N) (acc : St F) (h0 : t.val % 576 = 0) (h1 : t.val % 18 = 0) :
    (stAt0 m c t.val t.isLt acc).2.1 (ValueIdx.ix1 0) = k0_pay13 (iblk m c 0 t) (iblk m c 1 t) (FloatOps.ofBits .f32 0x00000000#32)
    ∧ (stAt0 m c t.val t.isLt acc).2.1 (ValueIdx.ix1 1) = k0_pay14 (iblk m c 0 t) (iblk m c 1 t) (iblk m c 2 t) (FloatOps.ofBits .f32 0x00000000#32)
    ∧ (stAt0 m c t.val t.isLt acc).2.1 (ValueIdx.ix1 2) = FloatOps.ofBits .f32 0x00000000#32 := by
  rw [stAt0_A m c t acc h0 h1 (by omega) (by omega)]
  dsimp only
  unfold sout0_A_0
  unfold kernelRun0_A
  dsimp only
  sl_unfold_words
  refine ⟨?_, ?_, ?_⟩
  · refine (View.read_writes_cons_unit_of_not_mem (s := S3) (e := .f32) _ _ _ _ _ _ rfl 0 (by decide)).trans ?_
    refine (View.read_writes_cons_unit_of_mem (s := S3) (e := .f32) _ _ _ _ _ _ (by exact ValueIdx.ix1 (0 : Fin 1)) rfl (by intro a; match a with | ⟨0, _⟩ => rfl)).trans ?_
    simp only [View.readAt_eq_ld, Memref.IsWhole.read_unread, read_sc0, read_sc1, read_sc2, read_sc3, read_sc4, read_sc5, read_sc6, read_sc7, View.ld_unit_zero (S := S128x32) hz, View.ld_unit_zero (S := S8192x32) hz, View.ld_unit_zero (S := S128x1) hz,
      View.ld_unit_zero (S := S1x8192) hz, View.ld_unit_zero (S := S128x8192) hz, View.ld_unit_zero (S := S1x1) hz, View.ld_unit_zero (S := S1x1x128) hz3]
    try rw [ld_word _ 0 ![0] rfl]
    try rw [ld_word _ 1 ![1] rfl]
    try rw [ld_word _ 2 ![2] rfl]
    try rfl
  · refine (View.read_writes_cons_unit_of_mem (s := S3) (e := .f32) _ _ _ _ _ _ (by exact ValueIdx.ix1 (0 : Fin 1)) rfl (by intro a; match a with | ⟨0, _⟩ => rfl)).trans ?_
    simp only [View.readAt_eq_ld, Memref.IsWhole.read_unread, read_sc0, read_sc1, read_sc2, read_sc3, read_sc4, read_sc5, read_sc6, read_sc7, View.ld_unit_zero (S := S128x32) hz, View.ld_unit_zero (S := S8192x32) hz, View.ld_unit_zero (S := S128x1) hz,
      View.ld_unit_zero (S := S1x8192) hz, View.ld_unit_zero (S := S128x8192) hz, View.ld_unit_zero (S := S1x1) hz, View.ld_unit_zero (S := S1x1x128) hz3]
    try rw [ld_word _ 0 ![0] rfl]
    try rw [ld_word _ 1 ![1] rfl]
    try rw [ld_word _ 2 ![2] rfl]
    try rfl
  · refine (View.read_writes_cons_unit_of_not_mem (s := S3) (e := .f32) _ _ _ _ _ _ rfl 0 (by decide)).trans ?_
    refine (View.read_writes_cons_unit_of_not_mem (s := S3) (e := .f32) _ _ _ _ _ _ rfl 0 (by decide)).trans ?_
    refine (View.read_writes_cons_unit_of_mem (s := S3) (e := .f32) _ _ _ _ _ _ (by exact ValueIdx.ix1 (0 : Fin 1)) rfl (by intro a; match a with | ⟨0, _⟩ => rfl)).trans ?_
    simp only [View.readAt_eq_ld, Memref.IsWhole.read_unread, read_sc0, read_sc1, read_sc2, read_sc3, read_sc4, read_sc5, read_sc6, read_sc7, View.ld_unit_zero (S := S128x32) hz, View.ld_unit_zero (S := S8192x32) hz, View.ld_unit_zero (S := S128x1) hz,
      View.ld_unit_zero (S := S1x8192) hz, View.ld_unit_zero (S := S128x8192) hz, View.ld_unit_zero (S := S1x1) hz, View.ld_unit_zero (S := S1x1x128) hz3]
    try rw [ld_word _ 0 ![0] rfl]
    try rw [ld_word _ 1 ![1] rfl]
    try rw [ld_word _ 2 ![2] rfl]
    try rfl

/-- The last point of a block adds its contrastive losses to the third word. -/
theorem words_C (c : Dev nD) (t : Fin cfg0.N) (acc : St F) (h1 : t.val % 18 = 17) (h4 : ¬ 558 ≤ t.val) :
    (stAt0 m c t.val t.isLt acc).2.1 (ValueIdx.ix1 0) = acc.2.1 (ValueIdx.ix1 0)
    ∧ (stAt0 m c t.val t.isLt acc).2.1 (ValueIdx.ix1 1) = acc.2.1 (ValueIdx.ix1 1)
    ∧ (stAt0 m c t.val t.isLt acc).2.1 (ValueIdx.ix1 2) = k0_pay8 acc.2.2.2.2.2.2.2.2 acc.2.2.2.2.2.2.2.1 (acc.2.1 (ValueIdx.ix1 2)) := by
  rw [stAt0_C m c t acc (by omega) (by omega) (by omega) h1 h4]
  dsimp only
  unfold sout0_C_0
  unfold kernelRun0_C
  dsimp only
  sl_unfold_words
  refine ⟨?_, ?_, ?_⟩
  · refine (View.read_writes_cons_unit_of_not_mem (s := S3) (e := .f32) _ _ _ _ _ _ rfl 0 (by decide)).trans ?_
    exact congrFun (Memref.IsWhole.read_unread _ _) _
  · refine (View.read_writes_cons_unit_of_not_mem (s := S3) (e := .f32) _ _ _ _ _ _ rfl 0 (by decide)).trans ?_
    exact congrFun (Memref.IsWhole.read_unread _ _) _
  · refine (View.read_writes_cons_unit_of_mem (s := S3) (e := .f32) _ _ _ _ _ _ (by exact ValueIdx.ix1 (0 : Fin 1)) rfl (by intro a; match a with | ⟨0, _⟩ => rfl)).trans ?_
    simp only [View.readAt_eq_ld, Memref.IsWhole.read_unread, read_sc0, read_sc1, read_sc2, read_sc3, read_sc4, read_sc5, read_sc6, read_sc7, View.ld_unit_zero (S := S128x32) hz, View.ld_unit_zero (S := S8192x32) hz, View.ld_unit_zero (S := S128x1) hz,
      View.ld_unit_zero (S := S1x8192) hz, View.ld_unit_zero (S := S128x8192) hz, View.ld_unit_zero (S := S1x1) hz, View.ld_unit_zero (S := S1x1x128) hz3]
    try rw [ld_word _ 0 ![0] rfl]
    try rw [ld_word _ 1 ![1] rfl]
    try rw [ld_word _ 2 ![2] rfl]
    try rfl

/-- The last point of the grid writes the weighted sum of the three words. -/
theorem step_E (c : Dev nD) (t : Fin cfg0.N) (acc : St F) (h1 : t.val % 18 = 17) (h4 : 558 ≤ t.val) :
    (stAt0 m c t.val t.isLt acc).1 = k0_pay9 (acc.2.1 (ValueIdx.ix1 0)) (acc.2.1 (ValueIdx.ix1 1))
      (k0_pay8 acc.2.2.2.2.2.2.2.2 acc.2.2.2.2.2.2.2.1 (acc.2.1 (ValueIdx.ix1 2))) := by
  rw [stAt0_E m c t acc (by omega) (by omega) (by omega) h1 h4]
  dsimp only
  unfold out0_E_5
  rw [View.read_writes_eq_canon _ _ _ (fun y => cover0_E_5 (y := y) ..)]
  unfold kernelRun0_E
  dsimp only
  sl_unfold_words
  rw [View.canon_unit_zero hz]
  simp only [View.readAt_eq_ld, Memref.IsWhole.read_unread, read_sc0, read_sc1, read_sc2, read_sc3, read_sc4, read_sc5, read_sc6, read_sc7, View.ld_unit_zero (S := S128x32) hz, View.ld_unit_zero (S := S8192x32) hz, View.ld_unit_zero (S := S128x1) hz,
      View.ld_unit_zero (S := S1x8192) hz, View.ld_unit_zero (S := S128x8192) hz, View.ld_unit_zero (S := S1x1) hz, View.ld_unit_zero (S := S1x1x128) hz3]
  rw [ld_word _ 0 ![0] rfl, ld_word _ 1 ![1] rfl, ld_word _ 2 ![2] rfl]

end Cert.KernelIdeal.Cases

end
-- ==== Proof.KernelBlock.lean ====
/-
  The kernel's expressions over the extended reals, at one row of a block.

  Each expression the body forms is read at an index: the row sums become sums over the coordinates, the broadcast
  columns and rows lose their unit axis, and the tests on codes and keys become propositions. What is left is the
  token's own mathematics.
-/
module

public import proofs.«01_k».proof.Proof.Gen.KernelIdeal.Skeleton
public import proofs.«01_k».proof.Proof.Token
public import Idealize.ShloMosaic.Lib.Pipeline.Value
public import Idealize.ShloMosaic.Lib.ValueIdx
public import Idealize.ShloMosaic.Lib.ValueLayout
public import Idealize.ShloMosaic.Lib.Pointwise
public import Idealize.ShloMosaic.PureOps.Ideal.Laws

@[expose] public section

noncomputable section

namespace Cert.KernelIdeal.Block

open Cert.KernelIdeal Cert.KernelIdeal.Gen
open Idealize.ShloMosaic hiding ix1 ix2 ix3
open Idealize.ShloMosaic.ValueIdx Cert.Token

/-! ## Layout -/

/-- A vector laid as a column reads its element at the row. -/
theorem column_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column broadcast over many columns reads its element at the row. -/
theorem broadcast_column_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of row `p` with coordinate `d` put back in. -/
theorem lift_row {a b : ℕ} (h : (⟨2, ![a, b]⟩ : Shape).Reduces [1] ⟨1, ![a]⟩) (p : Fin a) (d : Fin b) :
    h.lift (a := (1 : Fin 2)) (ix1 p) d = ix2 p d := by
  funext c
  apply Fin.ext
  match c with
  | ⟨0, _⟩ => rfl
  | ⟨1, _⟩ => rfl

/-- A sum along the rows, at row `p`. -/
theorem sum_row {a b : ℕ} (v : FVec Ideal ⟨2, ![a, b]⟩ .f32) (acc : BitVec 32) (h : (⟨2, ![a, b]⟩ : Shape).Reduces [1] ⟨1, ![a]⟩)
    (hφ : FKind.Formats .f32) (hacc : acc = FKind.add.neutral .f32 hφ) (p : Fin a) :
    multiReduction (F := Ideal) .add [1] ⟨1, ![a]⟩ v acc h hφ hacc (ix1 p) = ∑ d : Fin b, v (ix2 p d) := by
  rw [Ideal.multiReduction_add_single]
  exact Finset.sum_congr rfl fun d _ => congrArg v (lift_row h p d)

/-- A minimum along the rows from infinity, at row `p`. -/
theorem min_row {a b : ℕ} (v : FVec Ideal ⟨2, ![a, b]⟩ .f32) (h : (⟨2, ![a, b]⟩ : Shape).Reduces [1] ⟨1, ![a]⟩)
    (hφ : FKind.Formats .f32) (hacc : 0x7F800000#32 = FKind.minimumf.neutral .f32 hφ) (p : Fin a) :
    multiReduction (F := Ideal) .minimumf [1] ⟨1, ![a]⟩ v 0x7F800000#32 h hφ hacc (ix1 p) = Finset.univ.inf fun d : Fin b => v (ix2 p d) := by
  have e : multiReduction (F := Ideal) .minimumf [1] ⟨1, ![a]⟩ v 0x7F800000#32 h hφ hacc (ix1 p)
      = (Finset.univ : Finset (Fin b)).fold min (Ideal.ofBits .f32 0x7F800000#32) (fun d => v (h.lift (a := (1 : Fin 2)) (ix1 p) d)) :=
    (congrFun (multiReduction_minimumf_eq_reduceFold v _ h hφ hacc) _).trans
      ((reduceFold_eq_fold h _ _ v (ix1 p)).trans (h.fold_filter_drop_single _ _ v (ix1 p)))
  have top : Ideal.ofBits .f32 0x7F800000#32 = ⊤ := by simp [Ideal.ofBits, Ideal.ieee]
  rw [e, top]
  exact congrArg (Finset.univ.fold min ⊤) (funext fun d => congrArg v (lift_row h p d))

/-- A sum of a column over all its rows. -/
theorem sum_column (v : FVec Ideal S128x1 .f32) (hc : S128x1.ShapeCasts S1x128x1) (acc : BitVec 32) (h : S1x128x1.Reduces [1, 2] S1)
    (hφ : FKind.Formats .f32) (hacc : acc = FKind.add.neutral .f32 hφ) (j : S1.Idx) :
    multiReduction (F := Ideal) .add [1, 2] S1 (shapeCast S1x128x1 v hc) acc h hφ hacc j = ∑ p : Fin 128, v (ix2 p (0 : Fin 1)) := by
  show (∑ i ∈ Finset.univ.filter (fun i => h.drop i = j), shapeCast S1x128x1 v hc i) = _
  have hj (i : S1x128x1.Idx) : h.drop i = j := by
    funext a
    apply Fin.ext
    have h1 := (h.drop i a).isLt
    have h2 := (j a).isLt
    match a with
    | ⟨0, _⟩ => exact (Nat.lt_one_iff.mp h1).trans (Nat.lt_one_iff.mp h2).symm
  rw [Finset.filter_true_of_mem fun i _ => hj i]
  let e : Fin 128 ≃ S1x128x1.Idx :=
    { toFun := fun p => ix3 (0 : Fin 1) p (0 : Fin 1)
      invFun := fun i => i 1
      left_inv := fun p => rfl
      right_inv := fun i => by
        funext a
        apply Fin.ext
        match a with
        | ⟨0, _⟩ => exact (Nat.lt_one_iff.mp (i 0).isLt).symm
        | ⟨1, _⟩ => rfl
        | ⟨2, _⟩ => exact (Nat.lt_one_iff.mp (i 2).isLt).symm }
  rw [← Equiv.sum_comp e]
  refine Finset.sum_congr rfl fun p _ => shapeCast_apply v hc _ _ ?_
  rw [Shape.rowMajor_val_two, Shape.rowMajor_val_three]
  show p.val * 1 + 0 = (0 * 128 + p.val) * 1 + 0
  omega

/-! ## Rows -/

/-- Row `p` of a matrix of 32 columns. -/
def row {n : ℕ} (v : FVec Ideal ⟨2, ![n, 32]⟩ .f32) (p : Fin n) : Row := fun d => v (ix2 p d)

/-- The student's rows go through a cast to their own shape. -/
theorem pay10_eq (s : Vec Ideal S128x32 .f32) : k0_pay10 (F := Ideal) s = s := shapeCast_self _ _

/-- The tokens' squared norms. -/
theorem pay16_apply (s : FVec Ideal S128x32 .f32) (p : Fin 128) (u : Fin 1) : k0_pay16 (F := Ideal) s (ix2 p u) = sqn (row s p) := by
  unfold k0_pay16
  exact (column_apply _ _ _ _).trans (sum_row _ _ _ _ _ _)

/-- The codes' squared norms. -/
theorem pay17_apply (cb : Vec Ideal S8192x32 .f32) (u : Fin 1) (k : Fin 8192) : k0_pay17 (F := Ideal) cb (ix2 u k) = sqn (row cb k) := by
  unfold k0_pay17
  exact (shapeCast_a_1a_apply _ _ _ _).trans (sum_row _ _ _ _ _ _)

/-- The tokens' dot products with the codes. -/
theorem pay15_apply (s : FVec Ideal S128x32 .f32) (cb : Vec Ideal S8192x32 .f32) (p : Fin 128) (k : Fin 8192) :
    k0_pay15 (F := Ideal) s cb (ix2 p k) = dot (row s p) (row cb k) := by
  unfold k0_pay15
  show FloatOps.matmul dot_S128x32_S8192x32_S128x8192_1_1_0_0_n_n none s cb _ (ix2 p k) = _
  rw [Ideal.matmul_apply, ← Equiv.sum_comp (contrEquiv1 dot_S128x32_S8192x32_S128x8192_1_1_0_0_n_n 32 rfl rfl).symm]
  simp only [constant_apply, Ideal.ofBits_zero_f32, zero_add]
  refine Finset.sum_congr rfl fun d _ => ?_
  congr 1
  · refine congrArg s (funext fun a => Fin.ext ?_)
    match a with
    | ⟨0, _⟩ => rfl
    | ⟨1, _⟩ => rfl
  · refine congrArg cb (funext fun a => Fin.ext ?_)
    match a with
    | ⟨0, _⟩ => rfl
    | ⟨1, _⟩ => rfl

/-- The test for the token's own code, at a code in range. -/
theorem pay18_apply (code : IVec S128 32) (p : Fin 128) (own : Fin 8192) (ho : code (ix1 p) = BitVec.ofNat 32 own.val) (k : Fin 8192) :
    k0_pay18 code (ix2 p k) = if k = own then 1#1 else 0#1 := by
  unfold k0_pay18
  show IntOp.cmpi .eq (iota .tc S128x8192 32 [1] iota_S128x8192_d1_w32 (ix2 p k)) (broadcastTo S128x8192 (shapeCast S128x1 code shapeCasts_S128_S128x1) broadcasts_S128x1_S128x8192 (ix2 p k)) = _
  rw [broadcast_column_apply, column_apply, ho]
  have hi : iota .tc S128x8192 32 [1] iota_S128x8192_d1_w32 (ix2 p k) = BitVec.ofNat 32 k.val := by
    rw [iota_apply]
    show BitVec.ofNat 32 (0 * 8192 + k.val) = _
    rw [Nat.zero_mul, Nat.zero_add]
  rw [hi]
  by_cases hk : k = own
  · subst hk
    simp [IntOp.cmpi]
  · have hne : BitVec.ofNat 32 k.val ≠ BitVec.ofNat 32 own.val := by
      intro h
      apply hk
      have h' := congrArg BitVec.toNat h
      simp only [BitVec.toNat_ofNat] at h'
      have := k.isLt
      have := own.isLt
      exact Fin.ext (by omega)
    rw [if_neg hk]
    show BitVec.ofBool (BitVec.ofNat 32 k.val == BitVec.ofNat 32 own.val) = 0#1
    rw [beq_eq_false_iff_ne.mpr hne]
    rfl

/-- The infinity the kernel writes for a code that is out of the running. -/
theorem top_eq : Ideal.ofBits .f32 0x7F800000#32 = ⊤ := by simp [Ideal.ofBits, Ideal.ieee]

/-- An exponential is taken element by element. -/
theorem exp_at {s : Shape} (x : FVec Ideal s .f32) (i : s.Idx) : exp (F := Ideal) x i = Ideal.exp (x i) := rfl

/-- A square root is taken element by element. -/
theorem sqrt_at {s : Shape} (x : FVec Ideal s .f32) (i : s.Idx) : sqrt (F := Ideal) x i = Ideal.sqrt (x i) := rfl

/-- A constant's value is its word's value. -/
theorem word_at (b : BitVec 32) : (FloatOps.ofBits (F := Ideal) .f32 b : EReal) = Ideal.ofBits .f32 b := rfl

/-- A one-bit test turned into a number. -/
theorem test_apply (P : Prop) [Decidable P] : (FloatOps.sitofp (F := Ideal) .f32 ((if P then 1#1 else 0#1 : BitVec 1).setWidth 32) : EReal) = if P then 1 else 0 := by
  show (((((if P then 1#1 else 0#1 : BitVec 1).setWidth 32).toInt : ℝ)) : EReal) = _
  by_cases h : P
  · simp [h]
  · simp [h]

/-! ## The first point of a block -/

section First
variable (s : FVec Ideal S128x32 .f32) (code : IVec S128 32) (cb : Vec Ideal S8192x32 .f32) (p : Fin 128) (own : Fin 8192)
  (ho : code (ix1 p) = BitVec.ofNat 32 own.val)

include ho in
/-- The keys of a token. -/
theorem pay19_apply (k : Fin 8192) :
    k0_pay19 (F := Ideal) (Ideal.ofBits .f32 0x7F800000#32) s code cb (ix2 p k) = key (row s p) (row cb) own k := by
  unfold k0_pay19
  show Scalar.select (k0_pay18 code (ix2 p k)) (Ideal.ofBits .f32 0x7F800000#32)
    ((broadcastTo S128x8192 (k0_pay16 (F := Ideal) s) broadcasts_S128x1_S128x8192 (ix2 p k)
      + broadcastTo S128x8192 (k0_pay17 (F := Ideal) cb) broadcasts_S1x8192_S128x8192 (ix2 p k)) - two * k0_pay15 (F := Ideal) s cb (ix2 p k)) = _
  rw [pay18_apply code p own ho, broadcast_column_apply, broadcastTo_1b_ab_apply, pay16_apply, pay17_apply, pay15_apply, top_eq, key]
  by_cases hk : k = own
  · rw [if_pos hk, if_pos hk, select_one]
  · rw [if_neg hk, if_neg hk, select_zero, sqd]

include ho in
/-- The keys as they are stored. -/
theorem pay20_apply (k : Fin 8192) :
    k0_pay20 (F := Ideal) (Ideal.ofBits .f32 0x7F800000#32) s code cb (ix2 p k) = key (row s p) (row cb) own k := by
  unfold k0_pay20
  exact (congrFun (shapeCast_self _ _) _).trans (pay19_apply s code cb p own ho k)

include ho in
/-- The least key of a token. -/
theorem pay6_apply (u : Fin 1) :
    k0_pay6 (F := Ideal) (k0_pay19 (F := Ideal) (Ideal.ofBits .f32 0x7F800000#32) s code cb) (ix2 p u)
      = Select.thr (key (row s p) (row cb) own) 0 := by
  unfold k0_pay6
  refine (congrFun (shapeCast_self _ _) _).trans ((column_apply _ _ _ _).trans ((min_row _ _ _ _ _).trans ?_))
  exact congrArg (Finset.univ.inf) (funext fun k => pay19_apply s code cb p own ho k)

/-- The token's reciprocal norm. -/
theorem pay21_apply (u : Fin 1) : k0_pay21 (F := Ideal) s (ix2 p u) = inv (sqn (row s p)) := by
  unfold k0_pay21
  show Ideal.div (Ideal.ofBits .f32 0x3F800000#32) (max (Ideal.sqrt (k0_pay16 (F := Ideal) s (ix2 p u))) (Ideal.ofBits .f32 0x2B8CBCCC#32)) = _
  rw [pay16_apply, Ideal.ofBits_one_f32]
  rfl

include ho in
/-- The positive's exponential. -/
theorem pay1_apply (u : Fin 1) :
    k0_pay1 (F := Ideal) (k0_pay22 (F := Ideal) s code cb) (Ideal.ofBits .f32 0x41200000#32) (ix2 p u) = epos (row s p) (row cb) own := by
  have h22 : k0_pay22 (F := Ideal) s code cb (ix2 p u)
      = ((∑ k, if k = own then dot (row s p) (row cb k) else 0) * inv (sqn (row s p)))
        * inv (∑ k, (if k = own then (1 : EReal) else 0) * sqn (row cb k)) := by
    unfold k0_pay22
    dsimp only
    rw [mulf_apply, mulf_apply, divf_apply, pay21_apply, maximumf_apply, broadcast_apply, broadcast_apply, sqrt_at]
    simp only [word_at]
    have e : ∀ a b i z w : EReal, a = b → z = w →
        a * i * Ideal.div (Ideal.ofBits .f32 0x3F800000#32) (max (Ideal.sqrt z) eps) = b * i * inv w := by
      intro a b i z w ha hz
      rw [ha, hz, Ideal.ofBits_one_f32]
      rfl
    refine e _ _ _ _ _ ?_ ?_
    · refine (column_apply _ _ _ _).trans ((sum_row _ _ _ _ _ _).trans (Finset.sum_congr rfl fun k _ => ?_))
      rw [select_apply, pay18_apply code p own ho, pay15_apply]
      by_cases hk : k = own
      · rw [if_pos hk, if_pos hk, select_one]
      · rw [if_neg hk, if_neg hk, select_zero]
        exact Ideal.ofBits_zero_f32
    · refine (column_apply _ _ _ _).trans ((sum_row _ _ _ _ _ _).trans (Finset.sum_congr rfl fun k _ => ?_))
      rw [mulf_apply, sitofp_apply, extui_apply, pay18_apply code p own ho, broadcastTo_1b_ab_apply, pay17_apply, test_apply]
  unfold k0_pay1
  refine (congrFun (shapeCast_self _ _) _).trans ?_
  rw [exp_at, ValueIdx.subf_apply, mulf_apply, broadcast_apply, broadcast_apply, h22]
  rfl

end First

/-! ## A round -/

section Round
variable (keys : Vec Ideal S128x8192 .f32) (mk x2 ix neg0 : Vec Ideal S128x1 .f32) (c2 : Vec Ideal S1x8192 .f32)
  (p : Fin 128) (S : Row) (C : Fin 8192 → Row) (own : Fin 8192)

/-- The next least key. -/
theorem pay7_apply (u : Fin 1) (r : ℕ) (hk : ∀ k, keys (ix2 p k) = key S C own k) (hm : mk (ix2 p 0) = Select.thr (key S C own) r) :
    k0_pay7 (F := Ideal) (k0_pay24 (F := Ideal) (Ideal.ofBits .f32 0x7F800000#32) keys mk) (ix2 p u) = Select.thr (key S C own) (r + 1) := by
  unfold k0_pay7
  refine (congrFun (shapeCast_self _ _) _).trans ((column_apply _ _ _ _).trans ((min_row _ _ _ _ _).trans ?_))
  rw [Select.thr]
  refine congrArg (Finset.univ.inf) (funext fun k => ?_)
  unfold k0_pay24
  show Scalar.select (Ideal.cmp .ogt (keys (ix2 p k)) (broadcastTo S128x8192 mk broadcasts_S128x1_S128x8192 (ix2 p k))) (keys (ix2 p k)) (Ideal.ofBits .f32 0x7F800000#32) = _
  rw [broadcast_column_apply, hk, hm, top_eq]
  by_cases h : Select.thr (key S C own) r < key S C own k
  · rw [if_pos h]
    show Scalar.select (BitVec.ofBool (decide _)) _ _ = _
    rw [decide_eq_true h]
    rfl
  · rw [if_neg h]
    show Scalar.select (BitVec.ofBool (decide _)) _ _ = _
    rw [decide_eq_false h]
    rfl

/-- The negatives' sum with the next one added. -/
theorem pay23_apply (u : Fin 1) (hk : ∀ k, keys (ix2 p k) = key S C own k) (hc : ∀ k, c2 (ix2 0 k) = sqn (C k))
    (hx : x2 (ix2 p u) = sqn S) (hi : ix (ix2 p u) = inv (sqn S)) :
    k0_pay23 (F := Ideal) keys mk c2 x2 ix neg0 (ix2 p u) = neg0 (ix2 p u) + neg S C own (mk (ix2 p u)) := by
  have hu : u = 0 := Subsingleton.elim _ _
  subst hu
  unfold k0_pay23
  dsimp only
  refine (congrFun (shapeCast_self _ _) _).trans ?_
  have hs : shapeCast S128x1 (multiReduction (F := Ideal) .add [1] S128
        (mulf (sitofp .f32 (extui 32 (cmpf (F := Ideal) (φ := .f32) .oeq keys (broadcastTo S128x8192 (mk : FVec Ideal S128x1 .f32) broadcasts_S128x1_S128x8192)) natLt_1_32))
          (broadcastTo S128x8192 c2 broadcasts_S1x8192_S128x8192)) 0x00000000#32 reduces_S128x8192_S128 (.inl rfl) rfl) shapeCasts_S128_S128x1 (ix2 p 0)
      = c2at S C own (mk (ix2 p 0)) := by
    refine (column_apply _ _ _ _).trans ((sum_row _ _ _ _ _ _).trans (Finset.sum_congr rfl fun k _ => ?_))
    rw [mulf_apply, sitofp_apply, extui_apply, broadcastTo_1b_ab_apply, hc]
    congr 1
    have ht : cmpf (F := Ideal) (φ := .f32) .oeq keys (broadcastTo S128x8192 (mk : FVec Ideal S128x1 .f32) broadcasts_S128x1_S128x8192) (ix2 p k)
        = if key S C own k = mk (ix2 p 0) then 1#1 else 0#1 := by
      show BitVec.ofBool (decide (keys (ix2 p k) = broadcastTo S128x8192 mk broadcasts_S128x1_S128x8192 (ix2 p k))) = _
      rw [broadcast_column_apply, hk]
      by_cases h : key S C own k = mk (ix2 p 0)
      · rw [if_pos h, decide_eq_true h]; rfl
      · rw [if_neg h, decide_eq_false h]; rfl
    rw [ht, test_apply]
  refine congrArg (neg0 (ix2 p 0) + ·) ?_
  have e : ∀ z w x i q : EReal, z = w → x = sqn S → i = inv (sqn S) →
      Ideal.exp ((((x + z) - q) * half * i * Ideal.div (Ideal.ofBits .f32 0x3F800000#32) (max (Ideal.sqrt z) eps)) * ten - ten)
        = Ideal.exp ((((sqn S + w) - q) * half * inv (sqn S) * inv w) * ten - ten) := by
    intro z w x i q hz hx hi
    rw [hz, hx, hi, Ideal.ofBits_one_f32]
    rfl
  rw [exp_at, ValueIdx.subf_apply, mulf_apply, broadcast_apply, mulf_apply, mulf_apply, mulf_apply, ValueIdx.subf_apply, addf_apply, broadcast_apply, divf_apply,
    broadcast_apply, maximumf_apply, sqrt_at, broadcast_apply]
  simp only [word_at]
  exact e _ _ _ _ _ hs hx hi

end Round

/-! ## The sums over a block -/

/-- A token's squared feature error. -/
theorem pay12_apply (s t : Vec Ideal S128x32 .f32) (p : Fin 128) :
    k0_pay12 (F := Ideal) s t (ix1 p) = ∑ d, (row s p d - row t p d) * (row s p d - row t p d) := by
  unfold k0_pay12
  rw [pay10_eq, shapeCast_self]
  exact sum_row _ _ _ _ _ _

/-- The one element of a shape of one element along two axes. -/
theorem total_row (v : FVec Ideal S128 .f32) : extractAt (s := S1x1) ![0, 0]
      (shapeCast S1x1 (multiReduction (F := Ideal) .add [1] S1 (shapeCast S1x128 v shapeCasts_S128_S1x128) 0x00000000#32 reduces_S1x128_S1 (.inl rfl) rfl) shapeCasts_S1_S1x1) inpos_S1x1_p0_0
    = ∑ p : Fin 128, v (ix1 p) := by
  refine (shapeCast_apply _ _ _ (ix1 (0 : Fin 1)) ?_).trans ((sum_row _ _ _ _ _ _).trans (Finset.sum_congr rfl fun p _ => shapeCast_a_1a_apply _ _ _ _))
  decide

/-- The first word after a block: the block's mean squared errors are added. -/
theorem pay13_apply (s t : Vec Ideal S128x32 .f32) (a : EReal) :
    k0_pay13 (F := Ideal) s t a = a + (∑ p, ∑ d, (row s p d - row t p d) * (row s p d - row t p d)) * Ideal.ofBits .f32 0x3D000000#32 := by
  unfold k0_pay13
  refine congrArg (fun z => a + z * Ideal.ofBits .f32 0x3D000000#32) ((total_row _).trans ?_)
  exact Finset.sum_congr rfl fun p _ => pay12_apply s t p

/-- The second word after a block: the block's triplet losses are added. -/
theorem pay14_apply (s t n : Vec Ideal S128x32 .f32) (a : EReal) :
    k0_pay14 (F := Ideal) s t n a = a + ∑ p, max ((Ideal.sqrt (∑ d, (row s p d - row t p d) * (row s p d - row t p d))
      - Ideal.sqrt (∑ d, (row s p d - row n p d) * (row s p d - row n p d))) + Ideal.ofBits .f32 0x3E4CCCCD#32) 0 := by
  unfold k0_pay14
  refine congrArg (fun z => a + z) ((total_row _).trans ?_)
  refine Finset.sum_congr rfl fun p _ => ?_
  show max ((Ideal.sqrt (k0_pay12 (F := Ideal) s t (ix1 p)) - Ideal.sqrt (k0_pay12 (F := Ideal) s n (ix1 p))) + Ideal.ofBits .f32 0x3E4CCCCD#32) (Ideal.ofBits .f32 0x00000000#32) = _
  rw [pay12_apply, pay12_apply, Ideal.ofBits_zero_f32]

/-- The third word after a block: the block's contrastive losses are added. -/
theorem pay8_apply (e n : Vec Ideal S128x1 .f32) (a : EReal) :
    k0_pay8 (F := Ideal) e n a = a + ∑ p : Fin 128, (Ideal.log (e (ix2 p 0) + n (ix2 p 0)) - Ideal.log (e (ix2 p 0))) := by
  unfold k0_pay8
  refine congrArg (fun z => a + z) ?_
  refine (shapeCast_apply _ _ _ (ix1 (0 : Fin 1)) ?_).trans (sum_column _ _ _ _ _ _ _)
  decide

/-- The result: the three words weighted and divided by the number of tokens. -/
theorem pay9_apply (a b c : EReal) (j : S1x1.Idx) :
    k0_pay9 (F := Ideal) a b c j = ((a + b) + half * c) * Ideal.ofBits .f32 0x39800000#32 := by
  show ((Ideal.ofBits .f32 0x3F800000#32 * a + Ideal.ofBits .f32 0x3F800000#32 * b) + half * c) * _ = _
  rw [Ideal.ofBits_one_f32, one_mul, one_mul]
  rfl

end Cert.KernelIdeal.Block

end
-- ==== Proof.KernelInput.lean ====
/-
  The blocks a grid point reads, as rows of the arguments.

  Every input is cut along the tokens into blocks of 128; the eighteen points of a block read the same ones. The third
  input is the teacher again, one batch earlier. The codebook is read whole.
-/
module

public import proofs.«01_k».proof.Proof.Gen.KernelIdeal.Value
public import proofs.«01_k».proof.Proof.KernelBlock
public import proofs.«01_k».proof.Proof.Tokens

@[expose] public section

noncomputable section

namespace Cert.KernelIdeal.Input

open Cert.KernelIdeal Cert.KernelIdeal.Gen
open Idealize.ShloMosaic hiding ix1 ix2 ix3
open Idealize.ShloMosaic.TcCoe Idealize.SL.Sem Idealize.ShloMosaic.Tactic
open Idealize.ShloMosaic.ValueIdx Cert.Tokens Cert.KernelIdeal.Block

variable (m : (ℓ : Loc nD τ sig) → Buf (Elt Ideal) ℓ)

/-- The block of a grid point. -/
def blk (t : Fin cfg0.N) : Fin 32 := ⟨t.val / 18, by have := t.isLt; have e : cfg0.N = 576 := N_0; omega⟩

/-- The student's array when the region is entered. -/
theorem V_v0 (c : Dev nD) : (V m c main_v0 : Vec Ideal S4096x32 .f32)
    = shapeCast S4096x32 (m ((c : Thread nD τ).loc main_arg0) : Vec Ideal S4x1024x32 .f32) shapeCasts_S4x1024x32_S4096x32 := by
  show StableHlo.after hostOps0 _ (Proc.devRef .tc main_v0) = _
  after_results
  rfl

/-- The teacher's array when the region is entered. -/
theorem V_v1 (c : Dev nD) : (V m c main_v1 : Vec Ideal S4096x32 .f32)
    = shapeCast S4096x32 (m ((c : Thread nD τ).loc main_arg1) : Vec Ideal S4x1024x32 .f32) shapeCasts_S4x1024x32_S4096x32 := by
  show StableHlo.after hostOps0 _ (Proc.devRef .tc main_v1) = _
  after_results
  rfl

/-- The codes' array when the region is entered. -/
theorem V_v2 (c : Dev nD) : (V m c main_v2 : Vec Ideal S32x1x128 .i32)
    = shapeCast S32x1x128 (m ((c : Thread nD τ).loc main_arg2) : Vec Ideal S4x1024 .i32) shapeCasts_S4x1024_S32x1x128 := by
  show StableHlo.after hostOps0 _ (Proc.devRef .tc main_v2) = _
  after_results
  rfl

/-- Tokens flattened: row `n` is the token's row. -/
theorem flat_apply (x : Vec Ideal S4x1024x32 .f32) (n : Fin 4096) (d : Fin 32) :
    shapeCast S4096x32 x shapeCasts_S4x1024x32_S4096x32 (ix2 n d) = rowAt x n d :=
  shapeCast_apply x _ _ _ (by
    rw [Shape.rowMajor_val_three, Shape.rowMajor_val_two]
    show (n.val / 1024 * 1024 + n.val % 1024) * 32 + d.val = n.val * 32 + d.val
    omega)

/-- The block of the student a grid point reads. -/
theorem index0 : ∀ t : Fin cfg0.N, win0_0.index t (0 : Fin 2) = t.val / 18 ∧ win0_0.index t (1 : Fin 2) = 0 := by decide +kernel
/-- The block of the teacher a grid point reads. -/
theorem index1 : ∀ t : Fin cfg0.N, win0_1.index t (0 : Fin 2) = t.val / 18 ∧ win0_1.index t (1 : Fin 2) = 0 := by decide +kernel
/-- The block of the negative teacher a grid point reads. -/
theorem index2 : ∀ t : Fin cfg0.N, win0_2.index t (0 : Fin 2) = (t.val / 18 + 24) % 32 ∧ win0_2.index t (1 : Fin 2) = 0 := by decide +kernel
/-- The block of codes a grid point reads. -/
theorem index3 : ∀ t : Fin cfg0.N, win0_3.index t (0 : Fin 3) = t.val / 18 ∧ win0_3.index t (1 : Fin 3) = 0 ∧ win0_3.index t (2 : Fin 3) = 0 := by decide +kernel
/-- The codebook is one block, read whole. -/
theorem index4 : ∀ t : Fin cfg0.N, win0_4.index t (0 : Fin 2) = 0 ∧ win0_4.index t (1 : Fin 2) = 0 := by decide +kernel

/-- The student's block. -/
theorem student (c : Dev nD) (t : Fin cfg0.N) (p : Fin 128) :
    row (iblk m c 0 t : Vec Ideal S128x32 .f32) p = rowAt (m ((c : Thread nD τ).loc main_arg0)) (tok (blk t) p) := by
  funext d
  show (V m c main_v0 : Vec Ideal S4096x32 .f32) (((cfg0.win 0).blk t).view.emb (ix2 p d)) = _
  have e : ((cfg0.win 0).blk t).view.emb (ix2 p d) = (ix2 (tok (blk t) p) d : S4096x32.Idx) := by
    have h := index0 t
    funext a; apply Fin.ext
    match a with
    | ⟨0, _⟩ => show win0_0.index t (0 : Fin 2) * 128 + 1 * p.val = 128 * (t.val / 18) + p.val; omega
    | ⟨1, _⟩ => show win0_0.index t (1 : Fin 2) * 32 + 1 * d.val = d.val; omega
  rw [e, V_v0, flat_apply]

/-- The teacher's block. -/
theorem teacher (c : Dev nD) (t : Fin cfg0.N) (p : Fin 128) :
    row (iblk m c 1 t : Vec Ideal S128x32 .f32) p = rowAt (m ((c : Thread nD τ).loc main_arg1)) (tok (blk t) p) := by
  funext d
  show (V m c main_v1 : Vec Ideal S4096x32 .f32) (((cfg0.win 1).blk t).view.emb (ix2 p d)) = _
  have e : ((cfg0.win 1).blk t).view.emb (ix2 p d) = (ix2 (tok (blk t) p) d : S4096x32.Idx) := by
    have h := index1 t
    funext a; apply Fin.ext
    match a with
    | ⟨0, _⟩ => show win0_1.index t (0 : Fin 2) * 128 + 1 * p.val = 128 * (t.val / 18) + p.val; omega
    | ⟨1, _⟩ => show win0_1.index t (1 : Fin 2) * 32 + 1 * d.val = d.val; omega
  rw [e, V_v1, flat_apply]

/-- The negative teacher's block: the teacher's, one batch earlier. -/
theorem rolled (c : Dev nD) (t : Fin cfg0.N) (p : Fin 128) :
    row (iblk m c 2 t : Vec Ideal S128x32 .f32) p = rowAt (m ((c : Thread nD τ).loc main_arg1)) (prev (tok (blk t) p)) := by
  funext d
  show (V m c main_v1 : Vec Ideal S4096x32 .f32) (((cfg0.win 2).blk t).view.emb (ix2 p d)) = _
  have e : ((cfg0.win 2).blk t).view.emb (ix2 p d) = (ix2 (prev (tok (blk t) p)) d : S4096x32.Idx) := by
    have h := index2 t
    have ht : t.val / 18 < 32 := (blk t).isLt
    funext a; apply Fin.ext
    match a with
    | ⟨0, _⟩ => show win0_2.index t (0 : Fin 2) * 128 + 1 * p.val = (128 * (t.val / 18) + p.val + 3072) % 4096; omega
    | ⟨1, _⟩ => show win0_2.index t (1 : Fin 2) * 32 + 1 * d.val = d.val; omega
  rw [e, V_v1, flat_apply]

/-- The codes' block. -/
theorem codes (c : Dev nD) (t : Fin cfg0.N) (p : Fin 128) :
    k0_pay11 (iblk m c 3 t : Vec Ideal S1x1x128 .i32) (ix1 p) = codeAt (m ((c : Thread nD τ).loc main_arg2)) (tok (blk t) p) := by
  unfold k0_pay11
  refine (shapeCast_apply _ _ _ (ix3 (0 : Fin 1) (0 : Fin 1) p) ?_).trans ?_
  · rw [Shape.rowMajor_val_three, Shape.rowMajor_val_one]
    show (0 * 1 + 0) * 128 + p.val = p.val
    omega
  show (V m c main_v2 : Vec Ideal S32x1x128 .i32) (((cfg0.win 3).blk t).view.emb (ix3 (0 : Fin 1) (0 : Fin 1) p)) = _
  have e : ((cfg0.win 3).blk t).view.emb (ix3 (0 : Fin 1) (0 : Fin 1) p) = (ix3 (blk t) (0 : Fin 1) p : S32x1x128.Idx) := by
    have h := index3 t
    funext a; apply Fin.ext
    match a with
    | ⟨0, _⟩ => show win0_3.index t (0 : Fin 3) * 1 + 1 * 0 = t.val / 18; omega
    | ⟨1, _⟩ => show win0_3.index t (1 : Fin 3) * 1 + 1 * 0 = 0; omega
    | ⟨2, _⟩ => show win0_3.index t (2 : Fin 3) * 128 + 1 * p.val = p.val; omega
  rw [e, V_v2]
  refine shapeCast_apply _ _ _ (ix2 (batch (tok (blk t) p)) (pos (tok (blk t) p))) ?_
  rw [Shape.rowMajor_val_three, Shape.rowMajor_val_two]
  show (tok (blk t) p).val / 1024 * 1024 + (tok (blk t) p).val % 1024 = ((blk t).val * 1 + 0) * 128 + p.val
  have : (tok (blk t) p).val = 128 * (blk t).val + p.val := rfl
  omega

/-- The codebook, whole. -/
theorem codebook (c : Dev nD) (t : Fin cfg0.N) :
    row (iblk m c 4 t : Vec Ideal S8192x32 .f32) = code (m ((c : Thread nD τ).loc main_arg3)) := by
  funext k d
  show (V m c main_arg3 : Vec Ideal S8192x32 .f32) (((cfg0.win 4).blk t).view.emb (ix2 k d)) = _
  have e : ((cfg0.win 4).blk t).view.emb (ix2 k d) = (ix2 k d : S8192x32.Idx) := by
    have h := index4 t
    funext a; apply Fin.ext
    match a with
    | ⟨0, _⟩ => show win0_4.index t (0 : Fin 2) * 8192 + 1 * k.val = k.val; omega
    | ⟨1, _⟩ => show win0_4.index t (1 : Fin 2) * 32 + 1 * d.val = d.val; omega
  rw [e, V_main_arg3]
  rfl

end Cert.KernelIdeal.Input

end
-- ==== Proof.KernelFold.lean ====
/-
  What the grid's fold arrives at.

  By induction over the grid points: the first two words hold the sums over the blocks begun, the third the sum over the
  blocks ended; the other buffers hold the block's keys, norms and positives' exponentials, the key reached and the
  negatives summed so far. The last point writes the result.
-/
module

public import proofs.«01_k».proof.Proof.KernelCases
public import proofs.«01_k».proof.Proof.KernelInput

@[expose] public section

noncomputable section

namespace Cert.KernelIdeal.Fold

open Cert.KernelIdeal Cert.KernelIdeal.Gen Cert.KernelIdeal.Value Cert.KernelIdeal.Cases
open Idealize.ShloMosaic hiding ix1 ix2 ix3
open Idealize.ShloMosaic.TcCoe Idealize.SL.Sem
open Idealize.ShloMosaic.ValueIdx Cert.Tokens Cert.Token Cert.KernelIdeal.Block Cert.KernelIdeal.Input

/-! ## One token's part in the three sums -/

section Args
variable (s t : Vec Ideal S4x1024x32 .f32) (cb : Vec Ideal S8192x32 .f32) (own : Fin 4096 → Fin 8192)

/-- A block's feature sum. -/
def featB (g : Fin 32) : EReal := (∑ p, gap (rowAt s (tok g p)) (rowAt t (tok g p))) * Ideal.ofBits .f32 0x3D000000#32

/-- A block's triplet sum. -/
def tripB (g : Fin 32) : EReal := ∑ p, trip (rowAt s (tok g p)) (rowAt t (tok g p)) (rowAt t (prev (tok g p)))

/-- A block's contrastive sum. -/
def lossB (g : Fin 32) : EReal := ∑ p, lossK (rowAt s (tok g p)) (code cb) (own (tok g p))

end Args

/-- A sum over the first `G` blocks. -/
def upTo (f : Fin 32 → EReal) (G : ℕ) : EReal := ∑ g ∈ Finset.range G, if h : g < 32 then f ⟨g, h⟩ else 0

/-- Over no block the sum is zero. -/
theorem upTo_zero (f : Fin 32 → EReal) : upTo f 0 = 0 := Finset.sum_range_zero _

/-- One block more adds its term. -/
theorem upTo_succ (f : Fin 32 → EReal) (g : Fin 32) (G : ℕ) (h : G = g.val + 1) : upTo f G = upTo f g.val + f g := by
  subst h
  rw [upTo, Finset.sum_range_succ, dif_pos g.isLt]
  rfl

/-- Over all blocks it is the whole sum. -/
theorem upTo_all (f : Fin 32 → EReal) : upTo f 32 = ∑ g, f g := by
  rw [upTo, Finset.sum_range]
  exact Finset.sum_congr rfl fun g _ => dif_pos g.isLt

/-- What the seven buffers of a block hold at round `j`: for every token the keys, the codes' squared norms, the token's
    squared norm and reciprocal norm, the `j`-th least key, the negatives before it, the positive. -/
structure Good (S : Fin 128 → Row) (C : Fin 8192 → Row) (own : Fin 128 → Fin 8192) (j : ℕ)
    (X : Vec Ideal S128x8192 .f32 × Vec Ideal S1x8192 .f32 × Vec Ideal S128x1 .f32 × Vec Ideal S128x1 .f32 × Vec Ideal S128x1 .f32 × Vec Ideal S128x1 .f32
      × Vec Ideal S128x1 .f32) : Prop where
  keys : ∀ p k, X.1 (ix2 p k) = key (S p) C (own p) k
  c2 : ∀ k, X.2.1 (ix2 0 k) = sqn (C k)
  x2 : ∀ p, X.2.2.1 (ix2 p 0) = sqn (S p)
  ix : ∀ p, X.2.2.2.1 (ix2 p 0) = Token.inv (sqn (S p))
  mn : ∀ p, X.2.2.2.2.1 (ix2 p 0) = Select.thr (key (S p) C (own p)) j
  ne : ∀ p, X.2.2.2.2.2.1 (ix2 p 0) = nege (S p) C (own p) j
  po : ∀ p, X.2.2.2.2.2.2 (ix2 p 0) = epos (S p) C (own p)

/-- The block's first point fills the buffers for round zero. -/
theorem good_start (s : Vec Ideal S128x32 .f32) (k : Vec Ideal S1x1x128 .i32) (cb : Vec Ideal S8192x32 .f32) (own : Fin 128 → Fin 8192)
    (ho : ∀ p, k0_pay11 k (ix1 p) = BitVec.ofNat 32 (own p).val) : Good (row s) (row cb) own 0 (start (F := Ideal) s k cb) where
  keys p q := by
    show k0_pay20 (F := Ideal) (FloatOps.ofBits .f32 0x7F800000#32) (k0_pay10 s) (k0_pay11 k) cb (ix2 p q) = _
    rw [pay10_eq, word_at]
    exact pay20_apply s _ cb p (own p) (ho p) q
  c2 q := by
    show k0_pay2 (F := Ideal) (k0_pay17 cb) (ix2 0 q) = _
    unfold k0_pay2
    exact (congrFun (shapeCast_self _ _) _).trans (pay17_apply cb 0 q)
  x2 p := by
    show k0_pay3 (F := Ideal) (k0_pay16 (k0_pay10 s)) _ = _
    rw [pay10_eq]
    unfold k0_pay3
    exact (congrFun (shapeCast_self _ _) _).trans (pay16_apply s p 0)
  ix p := by
    show k0_pay4 (F := Ideal) (k0_pay21 (k0_pay10 s)) _ = _
    rw [pay10_eq]
    unfold k0_pay4
    exact (congrFun (shapeCast_self _ _) _).trans (pay21_apply s p 0)
  mn p := by
    unfold start
    dsimp only
    rw [pay10_eq, word_at]
    exact pay6_apply s _ cb p (own p) (ho p) 0
  ne p := by
    unfold start
    dsimp only
    unfold k0_pay5
    exact (congrFun (shapeCast_self _ _) _).trans Ideal.ofBits_zero_f32
  po p := by
    unfold start
    dsimp only
    rw [pay10_eq, word_at]
    exact pay1_apply s _ cb p (own p) (ho p) 0

/-- A round moves the buffers on. -/
theorem good_step {S : Fin 128 → Row} {C : Fin 8192 → Row} {own : Fin 128 → Fin 8192} {j : ℕ}
    {X : Vec Ideal S128x8192 .f32 × Vec Ideal S1x8192 .f32 × Vec Ideal S128x1 .f32 × Vec Ideal S128x1 .f32 × Vec Ideal S128x1 .f32 × Vec Ideal S128x1 .f32
      × Vec Ideal S128x1 .f32} (h : Good S C own j X) :
    Good S C own (j + 1) (X.1, X.2.1, X.2.2.1, X.2.2.2.1, k0_pay7 (k0_pay24 (FloatOps.ofBits .f32 0x7F800000#32) X.1 X.2.2.2.2.1),
      k0_pay23 X.1 X.2.2.2.2.1 X.2.1 X.2.2.1 X.2.2.2.1 X.2.2.2.2.2.1, X.2.2.2.2.2.2) where
  keys := h.keys
  c2 := h.c2
  x2 := h.x2
  ix := h.ix
  mn p := by
    dsimp only
    rw [word_at]
    exact pay7_apply _ _ p (S p) C (own p) 0 j (h.keys p) (h.mn p)
  ne p := by
    rw [nege, ← h.ne p, ← h.mn p]
    exact pay23_apply _ _ _ _ _ _ p (S p) C (own p) 0 (h.keys p) h.c2 (h.x2 p) (h.ix p)
  po := h.po

/-! ## The fold -/

variable (m : (ℓ : Loc nD τ sig) → Buf (Elt Ideal) ℓ) (c : Dev nD)

/-- The state after point `n`. -/
def after (n : ℕ) (h : n < 576) : St Ideal :=
  Pipeline.accAt (fun n h => stAt0 m c n h junk0) (stAt0 m c) 0 n (lt_of_lt_of_eq ((Nat.zero_add n).symm ▸ h) N_0.symm)

/-- Point `n` of the grid. -/
def pt (n : ℕ) (h : n < 576) : Fin cfg0.N := ⟨n, lt_of_lt_of_eq h N_0.symm⟩

/-- The first point starts from the buffers as the launch leaves them. -/
theorem after_zero (h : 0 < 576) : after m c 0 h = stAt0 m c (pt 0 h).val (pt 0 h).isLt junk0 := rfl

/-- A point named in two ways takes the same step. -/
theorem stAt0_congr (n n' : ℕ) (e : n = n') (h : n < cfg0.N) (h' : n' < cfg0.N) (x : St Ideal) : stAt0 m c n h x = stAt0 m c n' h' x := by
  subst e; rfl

/-- Each later point goes on from the one before. -/
theorem after_succ (n : ℕ) (h : n + 1 < 576) :
    after m c (n + 1) h = stAt0 m c (pt (n + 1) h).val (pt (n + 1) h).isLt (after m c n (by omega)) :=
  (Pipeline.accAt_succ _ _ 0 n _).trans (stAt0_congr m c _ _ (by show 0 + (n + 1) = n + 1; omega) _ _ _)

/-- The student's, the teacher's and the codebook's argument. -/
abbrev argS : Vec Ideal S4x1024x32 .f32 := m ((c : Thread nD τ).loc main_arg0)
/-- The teacher's array. -/
abbrev argT : Vec Ideal S4x1024x32 .f32 := m ((c : Thread nD τ).loc main_arg1)
/-- The codebook. -/
abbrev argC : Vec Ideal S8192x32 .f32 := m ((c : Thread nD τ).loc main_arg3)

/-- What holds after point `n`. -/
structure Inv (own : Fin 4096 → Fin 8192) (n : ℕ) (h : n < 576) : Prop where
  w0 : (after m c n h).2.1 (ix1 0) = upTo (featB (argS m c) (argT m c)) (n / 18 + 1)
  w1 : (after m c n h).2.1 (ix1 1) = upTo (tripB (argS m c) (argT m c)) (n / 18 + 1)
  w2 : (after m c n h).2.1 (ix1 2) = upTo (lossB (argS m c) (argC m c) own) ((n + 1) / 18)
  good : n % 18 ≤ 16 → Good (fun p => rowAt (argS m c) (tok (blk (pt n h)) p)) (code (argC m c)) (fun p => own (tok (blk (pt n h)) p)) (n % 18)
    (after m c n h).2.2

variable {own : Fin 4096 → Fin 8192}

/-- A block's first point adds the block's feature sum to the first word. -/
theorem word0 (t : Fin cfg0.N) (a : EReal) : k0_pay13 (F := Ideal) (iblk m c 0 t) (iblk m c 1 t) a = a + featB (argS m c) (argT m c) (blk t) := by
  rw [pay13_apply]
  simp only [student, teacher]
  rfl

/-- A block's first point adds the block's triplet sum to the second word. -/
theorem word1 (t : Fin cfg0.N) (a : EReal) :
    k0_pay14 (F := Ideal) (iblk m c 0 t) (iblk m c 1 t) (iblk m c 2 t) a = a + tripB (argS m c) (argT m c) (blk t) := by
  rw [pay14_apply]
  simp only [student, teacher, rolled]
  rfl

/-- A block's last point adds the block's contrastive sum to the third word. -/
theorem word2 (t : Fin 32) (e n : Vec Ideal S128x1 .f32) (a : EReal)
    (he : ∀ p, e (ix2 p 0) = epos (rowAt (argS m c) (tok t p)) (code (argC m c)) (own (tok t p)))
    (hn : ∀ p, n (ix2 p 0) = nege (rowAt (argS m c) (tok t p)) (code (argC m c)) (own (tok t p)) 16) :
    k0_pay8 (F := Ideal) e n a = a + lossB (argS m c) (argC m c) own t := by
  rw [pay8_apply]
  simp only [he, hn]
  rfl

/-- A block's first point fills the buffers with what round zero needs. -/
theorem good_first (ho : ∀ n, codeAt (m ((c : Thread nD τ).loc main_arg2)) n = BitVec.ofNat 32 (own n).val) (t : Fin cfg0.N) :
    Good (fun p => rowAt (argS m c) (tok (blk t) p)) (code (argC m c)) (fun p => own (tok (blk t) p)) 0
      (start (F := Ideal) (iblk m c 0 t) (iblk m c 3 t) (iblk m c 4 t)) := by
  have h := good_start (iblk m c 0 t) (iblk m c 3 t) (iblk m c 4 t) (fun p => own (tok (blk t) p)) fun p => (codes m c t p).trans (ho _)
  rw [codebook, show row (iblk m c 0 t : Vec Ideal S128x32 .f32) = fun p => rowAt (argS m c) (tok (blk t) p) from funext (student m c t)] at h
  exact h

/-- After the first point the buffers hold what they should. -/
theorem inv_zero (ho : ∀ n, codeAt (m ((c : Thread nD τ).loc main_arg2)) n = BitVec.ofNat 32 (own n).val) : Inv m c own 0 (by omega) := by
  have hw := words_A m c (pt 0 (by omega)) junk0 (by rfl) (by rfl)
  have hb : (blk (pt 0 (by omega))).val = 0 := rfl
  refine ⟨?_, ?_, ?_, fun _ => ?_⟩
  · rw [after_zero, hw.1, word0, upTo_succ _ (blk (pt 0 (by omega))) (0 / 18 + 1) rfl, hb, upTo_zero]
    exact congrArg (· + _) Ideal.ofBits_zero_f32
  · rw [after_zero, hw.2.1, word1, upTo_succ _ (blk (pt 0 (by omega))) (0 / 18 + 1) rfl, hb, upTo_zero]
    exact congrArg (· + _) Ideal.ofBits_zero_f32
  · rw [after_zero, hw.2.2]
    exact Ideal.ofBits_zero_f32.trans (upTo_zero _).symm
  · rw [after_zero, step_A m c (pt 0 (by omega)) junk0 (by rfl) (by rfl)]
    exact good_first m c ho _

/-- One point more keeps the buffers as they should be. -/
theorem inv_succ (ho : ∀ n, codeAt (m ((c : Thread nD τ).loc main_arg2)) n = BitVec.ofNat 32 (own n).val) (n : ℕ) (h : n + 1 < 575)
    (ih : Inv m c own n (by omega)) : Inv m c own (n + 1) (by omega) := by
  have e : (pt (n + 1) (by omega)).val = n + 1 := rfl
  have eb : (blk (pt (n + 1) (by omega))).val = (n + 1) / 18 := rfl
  rcases Nat.lt_or_ge 0 ((n + 1) % 18) with hj | hj
  · rcases Nat.lt_or_ge ((n + 1) % 18) 17 with hj' | hj'
    · have hs := step_B m c (pt (n + 1) (by omega)) (after m c n (by omega)) (by rw [e]; omega) (by rw [e]; omega)
      rw [← after_succ] at hs
      have hbe : blk (pt (n + 1) (by omega)) = blk (pt n (by omega)) := Fin.ext (by show (n + 1) / 18 = n / 18; omega)
      refine ⟨?_, ?_, ?_, fun _ => ?_⟩
      · rw [hs, show (n + 1) / 18 = n / 18 by omega]; exact ih.w0
      · rw [hs, show (n + 1) / 18 = n / 18 by omega]; exact ih.w1
      · rw [hs, show (n + 1 + 1) / 18 = (n + 1) / 18 by omega]; exact ih.w2
      · rw [hs, hbe, show (n + 1) % 18 = n % 18 + 1 by omega]
        exact good_step (ih.good (by omega))
    · have hw := words_C m c (pt (n + 1) (by omega)) (after m c n (by omega)) (by rw [e]; omega) (by rw [e]; omega)
      rw [← after_succ] at hw
      have hg := ih.good (by omega)
      rw [show n % 18 = 16 by omega] at hg
      refine ⟨?_, ?_, ?_, fun hh => by omega⟩
      · rw [hw.1, show (n + 1) / 18 = n / 18 by omega]; exact ih.w0
      · rw [hw.2.1, show (n + 1) / 18 = n / 18 by omega]; exact ih.w1
      · rw [hw.2.2, word2 m c (blk (pt n (by omega))) _ _ _ hg.po hg.ne, ih.w2,
          upTo_succ _ (blk (pt n (by omega))) ((n + 1 + 1) / 18) (by show (n + 1 + 1) / 18 = n / 18 + 1; omega)]
        rw [show (n + 1) / 18 = (blk (pt n (by omega))).val by show (n + 1) / 18 = n / 18; omega]
  · have hw := words_D m c (pt (n + 1) (by omega)) (after m c n (by omega)) (by rw [e]; omega) (by rw [e]; omega)
    have hs := step_D m c (pt (n + 1) (by omega)) (after m c n (by omega)) (by rw [e]; omega) (by rw [e]; omega)
    rw [← after_succ] at hw hs
    refine ⟨?_, ?_, ?_, fun _ => ?_⟩
    · rw [hw.1, word0, ih.w0, upTo_succ _ (blk (pt (n + 1) (by omega))) ((n + 1) / 18 + 1) rfl, eb, show (n + 1) / 18 = n / 18 + 1 by omega]
    · rw [hw.2.1, word1, ih.w1, upTo_succ _ (blk (pt (n + 1) (by omega))) ((n + 1) / 18 + 1) rfl, eb, show (n + 1) / 18 = n / 18 + 1 by omega]
    · rw [hw.2.2, show (n + 1 + 1) / 18 = (n + 1) / 18 by omega]; exact ih.w2
    · rw [hs, show (n + 1) % 18 = 0 by omega]
      exact good_first m c ho _

/-- After every point but the last the buffers hold what they should. -/
theorem inv (ho : ∀ n, codeAt (m ((c : Thread nD τ).loc main_arg2)) n = BitVec.ofNat 32 (own n).val) : ∀ n (h : n < 575), Inv m c own n (by omega)
  | 0, _ => inv_zero m c ho
  | n + 1, h => inv_succ m c ho n h (inv ho n (by omega))

/-- THE KERNEL'S RESULT: the three sums over the blocks, weighted and divided by the number of tokens. -/
theorem result (ho : ∀ n, codeAt (m ((c : Thread nD τ).loc main_arg2)) n = BitVec.ofNat 32 (own n).val) :
    (G5 m c : Vec Ideal S1x1 .f32) = fun _ => (((∑ g, featB (argS m c) (argT m c) g) + ∑ g, tripB (argS m c) (argT m c) g)
      + half * ∑ g, lossB (argS m c) (argC m c) own g) * Ideal.ofBits .f32 0x39800000#32 := by
  have ih := inv m c ho 574 (by omega)
  have hg := ih.good (by omega)
  have hs := step_E m c (pt 575 (by omega)) (after m c 574 (by omega)) (by rfl) (by show 558 ≤ 575; omega)
  rw [← after_succ] at hs
  refine (G5_last m c).trans (hs.trans (funext fun i => ?_))
  rw [pay9_apply, word2 m c (blk (pt 574 (by omega))) _ _ _ hg.po hg.ne, ih.w0, ih.w1, ih.w2]
  rw [← upTo_all, ← upTo_all, ← upTo_all, upTo_succ (lossB _ _ _) (blk (pt 574 (by omega))) 32 rfl]
  rfl

end Cert.KernelIdeal.Fold

end
-- ==== Proof.lean ====
/-
  The claim: both kernels and the reference run to an end, leave their arguments as they were and every semaphore at zero;
  the kernel over the reals is the kernel with nothing replaced; and over the reals the kernel's result is the reference's
  on every argument of the precondition.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import proofs.«01_k».proof.Proof.KernelFold
public import Idealize.ShloMosaic.Adequacy
public import Idealize.ShloMosaic.Init

@[expose] public section

noncomputable section

namespace Cert.Proof

open Idealize.ShloMosaic Idealize.SL.Sem

/-- The reference runs, leaves its arguments and has no semaphore to leave. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
            = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The kernel's result array is the reference's of the same arguments. -/
theorem value (m : (ℓ : Loc Cert.KernelIdeal.nD Cert.KernelIdeal.τ Cert.KernelIdeal.sig) → Buf (Elt Ideal) ℓ)
    (c : Dev Cert.KernelIdeal.nD) (h : Cert.Pre_KernelIdeal_separated m) :
    (Cert.ReferenceIdeal.Read.val_main_v120 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
        : Vec Ideal ⟨2, ![1, 1]⟩ .f32)
      = Cert.KernelIdeal.Value.G5 m c := by
  obtain ⟨h0, h1, h2, h3, h4⟩ := h c
  obtain ⟨own, ho⟩ := Pre.owns _ _ _ _ h2 h3
  refine (Cert.ReferenceIdeal.Contrast.result _ _ ho _).trans (Eq.trans ?_ (Cert.KernelIdeal.Fold.result m c ho).symm)
  funext _
  simp only [← Equation.loss_eq _ _ _ ho _ _ h0 h1 h4]
  exact (Equation.means _ _ _).symm

/-- The kernel's run and the reference's end with the same result. -/
theorem equal : Cert.algebraic_KernelIdeal_ReferenceIdeal_pre_separated := by
  intro m g m' g' hpre hargs
  refine ⟨fun c => Cert.KernelIdeal.Value.G5 m c, Cert.KernelIdeal.Value.run (F := Ideal) m g, ?_⟩
  refine (θ_run Cert.ReferenceIdeal.defs _ _).mono (fun r h c => ⟨(h c).1.trans ?_, (h c).2⟩)
    (Cert.ReferenceIdeal.Value.run (F := Ideal) m' g')
  obtain ⟨a0, a1, a2, a3⟩ := hargs c
  rw [Cert.ReferenceIdeal.Read.val_main_v120_eq, a0, a1, a2, a3]
  exact value m c hpre

/-- All claims together. -/
theorem claim : Cert.Claim :=
  ⟨Cert.Kernel.Gen.facts, Cert.KernelIdeal.Gen.facts, Cert.ReferenceIdeal.Gen.facts, Cert.Pre.facts,
    fun m g _ => Cert.Kernel.Gen.frame m g, fun m g _ => Cert.KernelIdeal.Gen.frame m g, fun m g _ => Cert.KernelIdeal.Gen.frame m g,
    fun m g _ => reference_frame m g, fun m g _ => reference_frame m g, trivial, equal⟩

end Cert.Proof

end
